-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 128, 256]⟩ ⟨3, ![32, 128, 256]⟩ 0 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v32) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x128 : Shape := ⟨2, ![256, 128]⟩
abbrev S128x32 : Shape := ⟨2, ![128, 32]⟩
abbrev S256x1 : Shape := ⟨2, ![256, 1]⟩
abbrev S2x128x256 : Shape := ⟨3, ![2, 128, 256]⟩
abbrev S128x256 : Shape := ⟨2, ![128, 256]⟩
abbrev S256x256 : Shape := ⟨2, ![256, 256]⟩
abbrev S15x16x256 : Shape := ⟨3, ![15, 16, 256]⟩
abbrev S15 : Shape := ⟨1, ![15]⟩
abbrev S_ : Shape := ⟨0, ![]⟩
abbrev S256x32 : Shape := ⟨2, ![256, 32]⟩
abbrev S256 : Shape := ⟨1, ![256]⟩
abbrev S1x128x256 : Shape := ⟨3, ![1, 128, 256]⟩
abbrev S1 : Shape := ⟨1, ![1]⟩
abbrev S1x16x256 : Shape := ⟨3, ![1, 16, 256]⟩
abbrev S16x256 : Shape := ⟨2, ![16, 256]⟩
abbrev S16x128 : Shape := ⟨2, ![16, 128]⟩

abbrev nBuf : Space → Nat
  | .hbm => 6
  | .vmem => 8
  | .smem => 0
  | _ => 0

abbrev bufTy : (tb : Table) → Fin (tcTables nBuf tb) → BufTy
  | .hbm, ⟨0, _⟩ => ⟨S256x128, .f32⟩
  | .hbm, ⟨1, _⟩ => ⟨S128x32, .f32⟩
  | .hbm, ⟨2, _⟩ => ⟨S256x1, .i32⟩
  | .hbm, ⟨3, _⟩ => ⟨S2x128x256, .f32⟩
  | .hbm, ⟨4, _⟩ => ⟨S128x256, .f32⟩
  | .hbm, ⟨5, _⟩ => ⟨S256x256, .f32⟩
  | .local _ .vmem, ⟨0, _⟩ => ⟨S256x128, .f32⟩
  | .local _ .vmem, ⟨1, _⟩ => ⟨S128x32, .f32⟩
  | .local _ .vmem, ⟨2, _⟩ => ⟨S256x1, .i32⟩
  | .local _ .vmem, ⟨3, _⟩ => ⟨S2x128x256, .f32⟩
  | .local _ .vmem, ⟨4, _⟩ => ⟨S128x256, .f32⟩
  | .local _ .vmem, ⟨5, _⟩ => ⟨S256x256, .f32⟩
  | .local _ .vmem, ⟨6, _⟩ => ⟨S256x256, .f32⟩
  | .local _ .vmem, ⟨7, _⟩ => ⟨S15x16x256, .f32⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) (c1_i32_87 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v117 : BitVec 32 := Scalar.addi v2 c1_i32_87
  let c16_i32_88 : BitVec 32 := 16#32
  let v118 : BitVec 32 := Scalar.remsi v117 c16_i32_88
  let c16_i32_89 : BitVec 32 := 16#32
  let v119 : BitVec 32 := Scalar.muli v118 c16_i32_89
  let c0_i32_97 : BitVec 32 := 0#32
  ![v119.toNat, 0]
def k0_dev16 (d0 : Dev nD) : Nat :=
  let c0_i32_94 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_87 : BitVec 32 := 1#32
  let v117 : BitVec 32 := Scalar.addi v2 c1_i32_87
  let c16_i32_88 : BitVec 32 := 16#32
  let v118 : BitVec 32 := Scalar.remsi v117 c16_i32_88
  let c1_i32_93 : BitVec 32 := 1#32
  let v120 : BitVec 32 := Scalar.muli v118 c1_i32_93
  let v121 : BitVec 32 := Scalar.addi c0_i32_94 v120
  v121.toNat
def k0_dev17 (d0 : Dev nD) : Nat :=
  let c0_i32_105 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_98 : BitVec 32 := 2#32
  let v129 : BitVec 32 := Scalar.addi v2 c2_i32_98
  let c16_i32_99 : BitVec 32 := 16#32
  let v130 : BitVec 32 := Scalar.remsi v129 c16_i32_99
  let c1_i32_104 : BitVec 32 := 1#32
  let v132 : BitVec 32 := Scalar.muli v130 c1_i32_104
  let v133 : BitVec 32 := Scalar.addi c0_i32_105 v132
  v133.toNat
def k0_dev18 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_109 : BitVec 32 := 3#32
  let v141 : BitVec 32 := Scalar.addi v2 c3_i32_109
  let c16_i32_110 : BitVec 32 := 16#32
  let v142 : BitVec 32 := Scalar.remsi v141 c16_i32_110
  let c1_i32_115 : BitVec 32 := 1#32
  let v144 : BitVec 32 := Scalar.muli v142 c1_i32_115
  let v145 : BitVec 32 := Scalar.addi c0_i32_116 v144
  v145.toNat
def k0_dev19 (d0 : Dev nD) : Nat :=
  let c0_i32_127 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_120 : BitVec 32 := 4#32
  let v153 : BitVec 32 := Scalar.addi v2 c4_i32_120
  let c16_i32_121 : BitVec 32 := 16#32
  let v154 : BitVec 32 := Scalar.remsi v153 c16_i32_121
  let c1_i32_126 : BitVec 32 := 1#32
  let v156 : BitVec 32 := Scalar.muli v154 c1_i32_126
  let v157 : BitVec 32 := Scalar.addi c0_i32_127 v156
  v157.toNat
def k0_dev20 (d0 : Dev nD) : Nat :=
  let c0_i32_138 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_131 : BitVec 32 := 5#32
  let v165 : BitVec 32 := Scalar.addi v2 c5_i32_131
  let c16_i32_132 : BitVec 32 := 16#32
  let v166 : BitVec 32 := Scalar.remsi v165 c16_i32_132
  let c1_i32_137 : BitVec 32 := 1#32
  let v168 : BitVec 32 := Scalar.muli v166 c1_i32_137
  let v169 : BitVec 32 := Scalar.addi c0_i32_138 v168
  v169.toNat
def k0_dev21 (d0 : Dev nD) : Nat :=
  let c0_i32_149 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_142 : BitVec 32 := 6#32
  let v177 : BitVec 32 := Scalar.addi v2 c6_i32_142
  let c16_i32_143 : BitVec 32 := 16#32
  let v178 : BitVec 32 := Scalar.remsi v177 c16_i32_143
  let c1_i32_148 : BitVec 32 := 1#32
  let v180 : BitVec 32 := Scalar.muli v178 c1_i32_148
  let v181 : BitVec 32 := Scalar.addi c0_i32_149 v180
  v181.toNat
def k0_dev22 (d0 : Dev nD) : Nat :=
  let c0_i32_160 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_153 : BitVec 32 := 7#32
  let v189 : BitVec 32 := Scalar.addi v2 c7_i32_153
  let c16_i32_154 : BitVec 32 := 16#32
  let v190 : BitVec 32 := Scalar.remsi v189 c16_i32_154
  let c1_i32_159 : BitVec 32 := 1#32
  let v192 : BitVec 32 := Scalar.muli v190 c1_i32_159
  let v193 : BitVec 32 := Scalar.addi c0_i32_160 v192
  v193.toNat
def k0_dev23 (d0 : Dev nD) : Nat :=
  let c0_i32_171 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_164 : BitVec 32 := 8#32
  let v201 : BitVec 32 := Scalar.addi v2 c8_i32_164
  let c16_i32_165 : BitVec 32 := 16#32
  let v202 : BitVec 32 := Scalar.remsi v201 c16_i32_165
  let c1_i32_170 : BitVec 32 := 1#32
  let v204 : BitVec 32 := Scalar.muli v202 c1_i32_170
  let v205 : BitVec 32 := Scalar.addi c0_i32_171 v204
  v205.toNat
def k0_dev24 (d0 : Dev nD) : Nat :=
  let c0_i32_182 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_175 : BitVec 32 := 9#32
  let v213 : BitVec 32 := Scalar.addi v2 c9_i32_175
  let c16_i32_176 : BitVec 32 := 16#32
  let v214 : BitVec 32 := Scalar.remsi v213 c16_i32_176
  let c1_i32_181 : BitVec 32 := 1#32
  let v216 : BitVec 32 := Scalar.muli v214 c1_i32_181
  let v217 : BitVec 32 := Scalar.addi c0_i32_182 v216
  v217.toNat
def k0_dev25 (d0 : Dev nD) : Nat :=
  let c0_i32_193 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_186 : BitVec 32 := 10#32
  let v225 : BitVec 32 := Scalar.addi v2 c10_i32_186
  let c16_i32_187 : BitVec 32 := 16#32
  let v226 : BitVec 32 := Scalar.remsi v225 c16_i32_187
  let c1_i32_192 : BitVec 32 := 1#32
  let v228 : BitVec 32 := Scalar.muli v226 c1_i32_192
  let v229 : BitVec 32 := Scalar.addi c0_i32_193 v228
  v229.toNat
def k0_dev26 (d0 : Dev nD) : Nat :=
  let c0_i32_204 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_197 : BitVec 32 := 11#32
  let v237 : BitVec 32 := Scalar.addi v2 c11_i32_197
  let c16_i32_198 : BitVec 32 := 16#32
  let v238 : BitVec 32 := Scalar.remsi v237 c16_i32_198
  let c1_i32_203 : BitVec 32 := 1#32
  let v240 : BitVec 32 := Scalar.muli v238 c1_i32_203
  let v241 : BitVec 32 := Scalar.addi c0_i32_204 v240
  v241.toNat
def k0_dev27 (d0 : Dev nD) : Nat :=
  let c0_i32_215 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_208 : BitVec 32 := 12#32
  let v249 : BitVec 32 := Scalar.addi v2 c12_i32_208
  let c16_i32_209 : BitVec 32 := 16#32
  let v250 : BitVec 32 := Scalar.remsi v249 c16_i32_209
  let c1_i32_214 : BitVec 32 := 1#32
  let v252 : BitVec 32 := Scalar.muli v250 c1_i32_214
  let v253 : BitVec 32 := Scalar.addi c0_i32_215 v252
  v253.toNat
def k0_dev28 (d0 : Dev nD) : Nat :=
  let c0_i32_226 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_219 : BitVec 32 := 13#32
  let v261 : BitVec 32 := Scalar.addi v2 c13_i32_219
  let c16_i32_220 : BitVec 32 := 16#32
  let v262 : BitVec 32 := Scalar.remsi v261 c16_i32_220
  let c1_i32_225 : BitVec 32 := 1#32
  let v264 : BitVec 32 := Scalar.muli v262 c1_i32_225
  let v265 : BitVec 32 := Scalar.addi c0_i32_226 v264
  v265.toNat
def k0_dev29 (d0 : Dev nD) : Nat :=
  let c0_i32_237 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_230 : BitVec 32 := 14#32
  let v273 : BitVec 32 := Scalar.addi v2 c14_i32_230
  let c16_i32_231 : BitVec 32 := 16#32
  let v274 : BitVec 32 := Scalar.remsi v273 c16_i32_231
  let c1_i32_236 : BitVec 32 := 1#32
  let v276 : BitVec 32 := Scalar.muli v274 c1_i32_236
  let v277 : BitVec 32 := Scalar.addi c0_i32_237 v276
  v277.toNat
def k0_dev30 (d0 : Dev nD) : Nat :=
  let c0_i32_248 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_241 : BitVec 32 := 15#32
  let v285 : BitVec 32 := Scalar.addi v2 c15_i32_241
  let c16_i32_242 : BitVec 32 := 16#32
  let v286 : BitVec 32 := Scalar.remsi v285 c16_i32_242
  let c1_i32_247 : BitVec 32 := 1#32
  let v288 : BitVec 32 := Scalar.muli v286 c1_i32_247
  let v289 : BitVec 32 := Scalar.addi c0_i32_248 v288
  v289.toNat
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_252 : BitVec 32 := 16#32
  let v297 : BitVec 32 := Scalar.muli v2 c16_i32_252
  let v298 : Index := Scalar.indexCast v297
  let c0_253 : Index := 0#32
  ![v298.toNat, 0]
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_437 : BitVec 32 := 16#32
  let v454 : BitVec 32 := Scalar.muli v2 c16_i32_437
  let v455 : Index := Scalar.indexCast v454
  let c0_438 : Index := 0#32
  ![v455.toNat, 0]
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_448 : BitVec 32 := 16#32
  let v467 : BitVec 32 := Scalar.muli v2 c16_i32_448
  let c0_i32_453 : BitVec 32 := 0#32
  ![v467.toNat, 0]
def k0_dev31 (d0 : Dev nD) : Nat :=
  let c0_i32_452 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_445 : BitVec 32 := 1#32
  let v464 : BitVec 32 := Scalar.addi v2 c1_i32_445
  let c16_i32_446 : BitVec 32 := 16#32
  let v465 : BitVec 32 := Scalar.remsi v464 c16_i32_446
  let c1_i32_451 : BitVec 32 := 1#32
  let v468 : BitVec 32 := Scalar.muli v465 c1_i32_451
  let v469 : BitVec 32 := Scalar.addi c0_i32_452 v468
  v469.toNat
def k0_dev32 (d0 : Dev nD) : Nat :=
  let c0_i32_462 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_455 : BitVec 32 := 2#32
  let v476 : BitVec 32 := Scalar.addi v2 c2_i32_455
  let c16_i32_456 : BitVec 32 := 16#32
  let v477 : BitVec 32 := Scalar.remsi v476 c16_i32_456
  let c1_i32_461 : BitVec 32 := 1#32
  let v480 : BitVec 32 := Scalar.muli v477 c1_i32_461
  let v481 : BitVec 32 := Scalar.addi c0_i32_462 v480
  v481.toNat
def k0_dev33 (d0 : Dev nD) : Nat :=
  let c0_i32_472 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_465 : BitVec 32 := 3#32
  let v488 : BitVec 32 := Scalar.addi v2 c3_i32_465
  let c16_i32_466 : BitVec 32 := 16#32
  let v489 : BitVec 32 := Scalar.remsi v488 c16_i32_466
  let c1_i32_471 : BitVec 32 := 1#32
  let v492 : BitVec 32 := Scalar.muli v489 c1_i32_471
  let v493 : BitVec 32 := Scalar.addi c0_i32_472 v492
  v493.toNat
def k0_dev34 (d0 : Dev nD) : Nat :=
  let c0_i32_482 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_475 : BitVec 32 := 4#32
  let v500 : BitVec 32 := Scalar.addi v2 c4_i32_475
  let c16_i32_476 : BitVec 32 := 16#32
  let v501 : BitVec 32 := Scalar.remsi v500 c16_i32_476
  let c1_i32_481 : BitVec 32 := 1#32
  let v504 : BitVec 32 := Scalar.muli v501 c1_i32_481
  let v505 : BitVec 32 := Scalar.addi c0_i32_482 v504
  v505.toNat
def k0_dev35 (d0 : Dev nD) : Nat :=
  let c0_i32_492 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_485 : BitVec 32 := 5#32
  let v512 : BitVec 32 := Scalar.addi v2 c5_i32_485
  let c16_i32_486 : BitVec 32 := 16#32
  let v513 : BitVec 32 := Scalar.remsi v512 c16_i32_486
  let c1_i32_491 : BitVec 32 := 1#32
  let v516 : BitVec 32 := Scalar.muli v513 c1_i32_491
  let v517 : BitVec 32 := Scalar.addi c0_i32_492 v516
  v517.toNat
def k0_dev36 (d0 : Dev nD) : Nat :=
  let c0_i32_502 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_495 : BitVec 32 := 6#32
  let v524 : BitVec 32 := Scalar.addi v2 c6_i32_495
  let c16_i32_496 : BitVec 32 := 16#32
  let v525 : BitVec 32 := Scalar.remsi v524 c16_i32_496
  let c1_i32_501 : BitVec 32 := 1#32
  let v528 : BitVec 32 := Scalar.muli v525 c1_i32_501
  let v529 : BitVec 32 := Scalar.addi c0_i32_502 v528
  v529.toNat
def k0_dev37 (d0 : Dev nD) : Nat :=
  let c0_i32_512 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_505 : BitVec 32 := 7#32
  let v536 : BitVec 32 := Scalar.addi v2 c7_i32_505
  let c16_i32_506 : BitVec 32 := 16#32
  let v537 : BitVec 32 := Scalar.remsi v536 c16_i32_506
  let c1_i32_511 : BitVec 32 := 1#32
  let v540 : BitVec 32 := Scalar.muli v537 c1_i32_511
  let v541 : BitVec 32 := Scalar.addi c0_i32_512 v540
  v541.toNat
def k0_dev38 (d0 : Dev nD) : Nat :=
  let c0_i32_522 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_515 : BitVec 32 := 8#32
  let v548 : BitVec 32 := Scalar.addi v2 c8_i32_515
  let c16_i32_516 : BitVec 32 := 16#32
  let v549 : BitVec 32 := Scalar.remsi v548 c16_i32_516
  let c1_i32_521 : BitVec 32 := 1#32
  let v552 : BitVec 32 := Scalar.muli v549 c1_i32_521
  let v553 : BitVec 32 := Scalar.addi c0_i32_522 v552
  v553.toNat
def k0_dev39 (d0 : Dev nD) : Nat :=
  let c0_i32_532 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_525 : BitVec 32 := 9#32
  let v560 : BitVec 32 := Scalar.addi v2 c9_i32_525
  let c16_i32_526 : BitVec 32 := 16#32
  let v561 : BitVec 32 := Scalar.remsi v560 c16_i32_526
  let c1_i32_531 : BitVec 32 := 1#32
  let v564 : BitVec 32 := Scalar.muli v561 c1_i32_531
  let v565 : BitVec 32 := Scalar.addi c0_i32_532 v564
  v565.toNat
def k0_dev40 (d0 : Dev nD) : Nat :=
  let c0_i32_542 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_535 : BitVec 32 := 10#32
  let v572 : BitVec 32 := Scalar.addi v2 c10_i32_535
  let c16_i32_536 : BitVec 32 := 16#32
  let v573 : BitVec 32 := Scalar.remsi v572 c16_i32_536
  let c1_i32_541 : BitVec 32 := 1#32
  let v576 : BitVec 32 := Scalar.muli v573 c1_i32_541
  let v577 : BitVec 32 := Scalar.addi c0_i32_542 v576
  v577.toNat
def k0_dev41 (d0 : Dev nD) : Nat :=
  let c0_i32_552 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_545 : BitVec 32 := 11#32
  let v584 : BitVec 32 := Scalar.addi v2 c11_i32_545
  let c16_i32_546 : BitVec 32 := 16#32
  let v585 : BitVec 32 := Scalar.remsi v584 c16_i32_546
  let c1_i32_551 : BitVec 32 := 1#32
  let v588 : BitVec 32 := Scalar.muli v585 c1_i32_551
  let v589 : BitVec 32 := Scalar.addi c0_i32_552 v588
  v589.toNat
def k0_dev42 (d0 : Dev nD) : Nat :=
  let c0_i32_562 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_555 : BitVec 32 := 12#32
  let v596 : BitVec 32 := Scalar.addi v2 c12_i32_555
  let c16_i32_556 : BitVec 32 := 16#32
  let v597 : BitVec 32 := Scalar.remsi v596 c16_i32_556
  let c1_i32_561 : BitVec 32 := 1#32
  let v600 : BitVec 32 := Scalar.muli v597 c1_i32_561
  let v601 : BitVec 32 := Scalar.addi c0_i32_562 v600
  v601.toNat
def k0_dev43 (d0 : Dev nD) : Nat :=
  let c0_i32_572 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_565 : BitVec 32 := 13#32
  let v608 : BitVec 32 := Scalar.addi v2 c13_i32_565
  let c16_i32_566 : BitVec 32 := 16#32
  let v609 : BitVec 32 := Scalar.remsi v608 c16_i32_566
  let c1_i32_571 : BitVec 32 := 1#32
  let v612 : BitVec 32 := Scalar.muli v609 c1_i32_571
  let v613 : BitVec 32 := Scalar.addi c0_i32_572 v612
  v613.toNat
def k0_dev44 (d0 : Dev nD) : Nat :=
  let c0_i32_582 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_575 : BitVec 32 := 14#32
  let v620 : BitVec 32 := Scalar.addi v2 c14_i32_575
  let c16_i32_576 : BitVec 32 := 16#32
  let v621 : BitVec 32 := Scalar.remsi v620 c16_i32_576
  let c1_i32_581 : BitVec 32 := 1#32
  let v624 : BitVec 32 := Scalar.muli v621 c1_i32_581
  let v625 : BitVec 32 := Scalar.addi c0_i32_582 v624
  v625.toNat
def k0_dev45 (d0 : Dev nD) : Nat :=
  let c0_i32_592 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_585 : BitVec 32 := 15#32
  let v632 : BitVec 32 := Scalar.addi v2 c15_i32_585
  let c16_i32_586 : BitVec 32 := 16#32
  let v633 : BitVec 32 := Scalar.remsi v632 c16_i32_586
  let c1_i32_591 : BitVec 32 := 1#32
  let v636 : BitVec 32 := Scalar.muli v633 c1_i32_591
  let v637 : BitVec 32 := Scalar.addi c0_i32_592 v636
  v637.toNat
def k0_off5 (d0 : Dev nD) (c1_i32_775 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v779 : BitVec 32 := Scalar.subi v2 c1_i32_775
  let c16_i32_776 : BitVec 32 := 16#32
  let v780 : BitVec 32 := Scalar.addi v779 c16_i32_776
  let c16_i32_777 : BitVec 32 := 16#32
  let v781 : BitVec 32 := Scalar.remsi v780 c16_i32_777
  let c16_i32_779 : BitVec 32 := 16#32
  let v783 : BitVec 32 := Scalar.muli v781 c16_i32_779
  let c0_i32_784 : BitVec 32 := 0#32
  ![v783.toNat, 0]
abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S256x128 : Shape := ⟨2, ![256, 128]⟩
abbrev S128x32 : Shape := ⟨2, ![128, 32]⟩
abbrev S256x1 : Shape := ⟨2, ![256, 1]⟩
abbrev S32x128x256 : Shape := ⟨3, ![32, 128, 256]⟩
abbrev S128x256 : Shape := ⟨2, ![128, 256]⟩
abbrev S256x32 : Shape := ⟨2, ![256, 32]⟩
abbrev S_ : Shape := ⟨0, ![]⟩
abbrev S256 : Shape := ⟨1, ![256]⟩
abbrev S256x256 : Shape := ⟨2, ![256, 256]⟩
abbrev S256x2 : Shape := ⟨2, ![256, 2]⟩
abbrev S2 : Shape := ⟨1, ![2]⟩
abbrev S1x2 : Shape := ⟨2, ![1, 2]⟩
abbrev S256x128x256 : Shape := ⟨3, ![256, 128, 256]⟩

abbrev nBuf : Space → Nat
  | .hbm => 44
  | .vmem => 0
  | .smem => 0
  | _ => 0

abbrev bufTy : (tb : Table) → Fin (tcTables nBuf tb) → BufTy
  | .hbm, ⟨0, _⟩ => ⟨S256x128, .f32⟩
  | .hbm, ⟨1, _⟩ => ⟨S128x32, .f32⟩
  | .hbm, ⟨2, _⟩ => ⟨S256x1, .i32⟩
  | .hbm, ⟨3, _⟩ => ⟨S32x128x256, .f32⟩
  | .hbm, ⟨4, _⟩ => ⟨S128x256, .f32⟩
  | .hbm, ⟨5, _⟩ => ⟨S256x32, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S256x32, .f32⟩
  | .hbm, ⟨10, _⟩ => ⟨S256x32, .f32⟩
  | .hbm, ⟨11, _⟩ => ⟨S256x32, .f32⟩
  | .hbm, ⟨12, _⟩ => ⟨S_, .f32⟩
  | .hbm, ⟨13, _⟩ => ⟨S256, .f32⟩
  | .hbm, ⟨14, _⟩ => ⟨S256x1, .f32⟩
  | .hbm, ⟨15, _⟩ => ⟨S256x32, .f32⟩
  | .hbm, ⟨16, _⟩ => ⟨S256x32, .f32⟩
  | .hbm, ⟨17, _⟩ => ⟨S256x256, .f32⟩
  | .hbm, ⟨18, _⟩ => ⟨S256, .i32⟩
  | .hbm, ⟨19, _⟩ => ⟨S256, .i32⟩
  | .hbm, ⟨20, _⟩ => ⟨S256x1, .i32⟩
  | .hbm, ⟨21, _⟩ => ⟨S256x1, .i32⟩
  | .hbm, ⟨22, _⟩ => ⟨S256x2, .i32⟩
  | .hbm, ⟨23, _⟩ => ⟨S2, .i32⟩
  | .hbm, ⟨24, _⟩ => ⟨S_, .i32⟩
  | .hbm, ⟨25, _⟩ => ⟨S256x2, .i32⟩
  | .hbm, ⟨26, _⟩ => ⟨S256x2, .i1⟩
  | .hbm, ⟨27, _⟩ => ⟨S1x2, .i32⟩
  | .hbm, ⟨28, _⟩ => ⟨S256x2, .i32⟩
  | .hbm, ⟨29, _⟩ => ⟨S256x2, .i1⟩
  | .hbm, ⟨30, _⟩ => ⟨S256x2, .i1⟩
  | .hbm, ⟨31, _⟩ => ⟨S_, .i1⟩
  | .hbm, ⟨32, _⟩ => ⟨S256, .i1⟩
  | .hbm, ⟨33, _⟩ => ⟨S256, .f32⟩
  | .hbm, ⟨34, _⟩ => ⟨S_, .f32⟩
  | .hbm, ⟨35, _⟩ => ⟨S256, .f32⟩
  | .hbm, ⟨36, _⟩ => ⟨S256, .f32⟩
  | .hbm, ⟨37, _⟩ => ⟨S256x1, .i32⟩
  | .hbm, ⟨38, _⟩ => ⟨S256x128x256, .f32⟩
  | .hbm, ⟨39, _⟩ => ⟨S256x1, .f32⟩
  | .hbm, ⟨40, _⟩ => ⟨S256x256, .f32⟩
  | .hbm, ⟨41, _⟩ => ⟨S256x256, .f32⟩
  | .hbm, ⟨42, _⟩ => ⟨S256x256, .f32⟩
  | .hbm, ⟨43, _⟩ => ⟨S256x256, .f32⟩
  | _, _ => ⟨S256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Proof.Steps.lean ====
/-
# The kernel's body as five rows of fifteen steps

Each device talks to its fifteen peers in the order of their distance, so the body is five rows of fifteen like
steps with a few loads and stores between them. This module names the step of each row as a function of the
distance, states the body as those rows, and proves that the printed body is that program.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.MoeProof

open Cert.KernelIdeal Cert.KernelIdeal.Gen
open Idealize.ShloMosaic Idealize.ShloMosaic.TcCoe
open Idealize.SL.Sem

variable {F : FTy → Type} [FloatOps F]

/-! ## Buffers -/

abbrev xM : Memref sig .tc .vmem S256x128 .f32 := Memref.whole cc0_stg0_0
abbrev rwM : Memref sig .tc .vmem S128x32 .f32 := Memref.whole cc0_stg1_0
abbrev idxM : Memref sig .tc .vmem S256x1 .i32 := Memref.whole cc0_stg2_0
abbrev ewM : Memref sig .tc .vmem S2x128x256 .f32 := Memref.whole cc0_stg3_0
abbrev swM : Memref sig .tc .vmem S128x256 .f32 := Memref.whole cc0_stg4_0
abbrev outM : Memref sig .tc .vmem S256x256 .f32 := Memref.whole cc0_stg5_0
abbrev accM : Memref sig .tc .vmem S256x256 .f32 := Memref.whole cc0_scratch0
abbrev recvM : Memref sig .tc .vmem S15x16x256 .f32 := Memref.whole cc0_scratch1

/-- The four arrays of fifteen semaphores: scatter sent, scatter received, gather sent, gather received. -/
abbrev semArr : Fin 4 → DmaSems sig S15
  | 0 => cc0_scratch2 | 1 => cc0_scratch3 | 2 => cc0_scratch4 | 3 => cc0_scratch5

theorem inb_sem (k : Fin 15) : ∀ a, (![k.val] : Fin 1 → Nat) a + S1.size a ≤ S15.size a := by revert k; decide
theorem inb_slot (k : Fin 15) : ∀ a, (![k.val, 0, 0] : Fin 3 → Nat) a + S1x16x256.size a ≤ S15x16x256.size a := by
  revert k; decide

/-- Semaphore `k` of array `j`. -/
abbrev dsem (j : Fin 4) (k : Fin 15) : DmaSem sig :=
  (((semArr j).slice (Rect.unit (s := S15) ![k.val] S1.size (inb_sem k))).squeeze S_ squeezes_S1_S_).sem

/-- The runtime's barrier semaphore. -/
abbrev barS : Sem sig := (SemArray.scalar (sig.barrier 0 rfl) : Sems sig S_).sem

/-- Slot `k` of the landing buffer. -/
abbrev slotM (k : Fin 15) : Memref sig .tc .vmem S16x256 .f32 :=
  (recvM.slice (Rect.unit (s := S15x16x256) ![k.val, 0, 0] S1x16x256.size (inb_slot k)) (fun _ => rfl)).squeeze S16x256
    squeezes_S1x16x256_S16x256

/-- The distance of step `k` as the word the kernel computes with. -/
abbrev dist (k : Fin 15) : BitVec 32 := BitVec.ofNat 32 (1 + k.val)

/-- Sixteen rows of a 256-row buffer, at an offset. -/
abbrev rowsAt (M : Memref sig .tc .vmem S256x256 .f32) (off : Fin 2 → Nat) (h : ∀ a, off a + S16x256.size a ≤ S256x256.size a) :
    Memref sig .tc .vmem S16x256 .f32 :=
  M.slice (Rect.unit (s := S256x256) off S16x256.size h) (fun _ => rfl)

/-! ## The peers as the kernel names them -/

/-- The device step `k` of the handshake signals. -/
def sigDev (c : Dev nD) : Fin 15 → Dev nD
  | 0 => ⟨k0_dev1 c, k0_dev1_lt c⟩
  | 1 => ⟨k0_dev2 c, k0_dev2_lt c⟩
  | 2 => ⟨k0_dev3 c, k0_dev3_lt c⟩
  | 3 => ⟨k0_dev4 c, k0_dev4_lt c⟩
  | 4 => ⟨k0_dev5 c, k0_dev5_lt c⟩
  | 5 => ⟨k0_dev6 c, k0_dev6_lt c⟩
  | 6 => ⟨k0_dev7 c, k0_dev7_lt c⟩
  | 7 => ⟨k0_dev8 c, k0_dev8_lt c⟩
  | 8 => ⟨k0_dev9 c, k0_dev9_lt c⟩
  | 9 => ⟨k0_dev10 c, k0_dev10_lt c⟩
  | 10 => ⟨k0_dev11 c, k0_dev11_lt c⟩
  | 11 => ⟨k0_dev12 c, k0_dev12_lt c⟩
  | 12 => ⟨k0_dev13 c, k0_dev13_lt c⟩
  | 13 => ⟨k0_dev14 c, k0_dev14_lt c⟩
  | 14 => ⟨k0_dev15 c, k0_dev15_lt c⟩
/-- The device step `k` of the scatter sends to. -/
def rsDev (c : Dev nD) : Fin 15 → Dev nD
  | 0 => ⟨k0_dev16 c, k0_dev16_lt c⟩
  | 1 => ⟨k0_dev17 c, k0_dev17_lt c⟩
  | 2 => ⟨k0_dev18 c, k0_dev18_lt c⟩
  | 3 => ⟨k0_dev19 c, k0_dev19_lt c⟩
  | 4 => ⟨k0_dev20 c, k0_dev20_lt c⟩
  | 5 => ⟨k0_dev21 c, k0_dev21_lt c⟩
  | 6 => ⟨k0_dev22 c, k0_dev22_lt c⟩
  | 7 => ⟨k0_dev23 c, k0_dev23_lt c⟩
  | 8 => ⟨k0_dev24 c, k0_dev24_lt c⟩
  | 9 => ⟨k0_dev25 c, k0_dev25_lt c⟩
  | 10 => ⟨k0_dev26 c, k0_dev26_lt c⟩
  | 11 => ⟨k0_dev27 c, k0_dev27_lt c⟩
  | 12 => ⟨k0_dev28 c, k0_dev28_lt c⟩
  | 13 => ⟨k0_dev29 c, k0_dev29_lt c⟩
  | 14 => ⟨k0_dev30 c, k0_dev30_lt c⟩
/-- The device step `k` of the gather sends to. -/
def agDev (c : Dev nD) : Fin 15 → Dev nD
  | 0 => ⟨k0_dev31 c, k0_dev31_lt c⟩
  | 1 => ⟨k0_dev32 c, k0_dev32_lt c⟩
  | 2 => ⟨k0_dev33 c, k0_dev33_lt c⟩
  | 3 => ⟨k0_dev34 c, k0_dev34_lt c⟩
  | 4 => ⟨k0_dev35 c, k0_dev35_lt c⟩
  | 5 => ⟨k0_dev36 c, k0_dev36_lt c⟩
  | 6 => ⟨k0_dev37 c, k0_dev37_lt c⟩
  | 7 => ⟨k0_dev38 c, k0_dev38_lt c⟩
  | 8 => ⟨k0_dev39 c, k0_dev39_lt c⟩
  | 9 => ⟨k0_dev40 c, k0_dev40_lt c⟩
  | 10 => ⟨k0_dev41 c, k0_dev41_lt c⟩
  | 11 => ⟨k0_dev42 c, k0_dev42_lt c⟩
  | 12 => ⟨k0_dev43 c, k0_dev43_lt c⟩
  | 13 => ⟨k0_dev44 c, k0_dev44_lt c⟩
  | 14 => ⟨k0_dev45 c, k0_dev45_lt c⟩

/-! ## Rows of steps -/

abbrev KProg (F : FTy → Type) (α : Type) := Prog (TpuEff nD τ sig (Elt F) Λ₀ .tc) α

/-- The steps `step k` for each `k` of a list in turn, then `rest`. -/
def steps {α : Type} (step : Fin 15 → KProg F PUnit) (rest : KProg F α) : List (Fin 15) → KProg F α
  | [] => rest
  | k :: ks => step k >>= fun _ => steps step rest ks

/-- The fifteen distances, nearest first. -/
abbrev ks15 : List (Fin 15) := [0, 1, 2, 3, 4, 5, 6, 7, 8, 9, 10, 11, 12, 13, 14]

/-- Tell peer `k` that this device has entered. -/
def stSignal (c : Dev nD) (k : Fin 15) : KProg F PUnit := Prog.lift (.semSignal (sigDev c k) barS 1)

/-- Send peer `k` its sixteen rows of this device's partial sum. -/
def stScatter (c : Dev nD) (k : Fin 15) : KProg F PUnit :=
  Prog.lift (.enqueueDma (rowsAt accM (k0_off1 c (dist k)) (k0_off1_inb c k))
    (.remote (Dev.tc (rsDev c k)) (slotM k) (.dma (dsem 0 k))) (.dma (dsem 1 k))
    (View.wordExact_bits rfl) ((View.wordExact_bits rfl).reshape _ _) ⟨⟨rfl, Or.inl rfl⟩, trivial⟩)

/-- Wait for the rows that land in slot `k`. -/
def stScatterGot (k : Fin 15) : KProg F PUnit :=
  Prog.lift (.waitDma2 (dsem 1 k) (rowsAt accM ![0, 0] inb_S256x256_S16x256_0_0) (slotM k)
    (View.wordExact_bits rfl) ((View.wordExact_bits rfl).reshape _ _))

/-- Send peer `k` this device's finished rows. -/
def stGather (c : Dev nD) (k : Fin 15) : KProg F PUnit :=
  Prog.lift (.enqueueDma (rowsAt outM (k0_off4 c) (k0_off4_inb c))
    (.remote (Dev.tc (agDev c k)) (rowsAt outM (k0_off4 c) (k0_off4_inb c)) (.dma (dsem 2 k))) (.dma (dsem 3 k))
    (View.wordExact_bits rfl) (View.wordExact_bits rfl) ⟨⟨rfl, Or.inl rfl⟩, trivial⟩)

/-- Wait until scatter transfer `k` has been sent. -/
def stScatterSent (c : Dev nD) (k : Fin 15) : KProg F PUnit :=
  Prog.lift (.waitDma2 (dsem 0 k) (slotM k) (rowsAt accM (k0_off1 c (dist k)) (k0_off1_inb c k))
    ((View.wordExact_bits rfl).reshape _ _) (View.wordExact_bits rfl))

/-- Wait until gather transfer `k` has been sent. -/
def stGatherSent (c : Dev nD) (k : Fin 15) : KProg F PUnit :=
  Prog.lift (.waitDma2 (dsem 2 k) (rowsAt outM (k0_off4 c) (k0_off4_inb c)) (rowsAt outM (k0_off4 c) (k0_off4_inb c))
    (View.wordExact_bits rfl) (View.wordExact_bits rfl))

/-- Wait for the finished rows of the device at distance `k` behind. -/
def stGatherGot (c : Dev nD) (k : Fin 15) : KProg F PUnit :=
  Prog.lift (.waitDma2 (dsem 3 k) (rowsAt outM (k0_off5 c (dist k)) (k0_off5_inb c k)) (rowsAt outM (k0_off5 c (dist k)) (k0_off5_inb c k))
    (View.wordExact_bits rfl) (View.wordExact_bits rfl))

/-! ## The body -/

abbrev rX : Rect S256x128 := Rect.unit (s := S256x128) ![0, 0] S256x128.size inb_S256x128_S256x128_0_0
abbrev rRw : Rect S128x32 := Rect.unit (s := S128x32) ![0, 0] S128x32.size inb_S128x32_S128x32_0_0
abbrev rIdx : Rect S256x1 := Rect.unit (s := S256x1) ![0, 0] S256x1.size inb_S256x1_S256x1_0_0
abbrev rEw0 : Rect S2x128x256 := Rect.unit (s := S2x128x256) ![0, 0, 0] S1x128x256.size inb_S2x128x256_S1x128x256_0_0_0
abbrev rEw1 : Rect S2x128x256 := Rect.unit (s := S2x128x256) ![1, 0, 0] S1x128x256.size inb_S2x128x256_S1x128x256_1_0_0
abbrev rFull : Rect S256x256 := Rect.unit (s := S256x256) ![0, 0] S256x256.size inb_S256x256_S256x256_0_0
abbrev rXc (c : Dev nD) : Rect S256x128 := Rect.unit (s := S256x128) (k0_off2 c) S16x128.size (k0_off2_inb c)
abbrev rSw : Rect S128x256 := Rect.unit (s := S128x256) ![0, 0] S128x256.size inb_S128x256_S128x256_0_0
abbrev rOwn (c : Dev nD) : Rect S256x256 := Rect.unit (s := S256x256) (k0_off3 c) S16x256.size (k0_off3_inb c)
abbrev rRecv : Rect S15x16x256 := Rect.unit (s := S15x16x256) ![0, 0, 0] S15x16x256.size inb_S15x16x256_S15x16x256_0_0_0

/-- The device's number as the kernel computes it. -/
abbrev numOf (c : Dev nD) : BitVec 32 := Scalar.remsi (Scalar.divsi (Dev.word c) 1#32) 16#32

/-- A device's partial sum from the values it loads. -/
abbrev partVal (c : Dev nD) (x : Vec F S256x128 .f32) (rw : Vec F S128x32 .f32) (idx : Vec F S256x1 .i32)
    (w0 w1 : Vec F S1x128x256 .f32) : FVec F S256x256 .f32 :=
  k0_pay5 (k0_pay4 (numOf c) (k0_pay1 x) (k0_pay2 x rw) (k0_pay3 x rw) idx w0 w1)

/-- From the own rows on: what follows the scatter's waits. -/
def bodyGather (c : Dev nD) (sh : FVec F S16x256 .f32) : KProg F PUnit :=
  .op (.load accM (rOwn c).toLoadRect (View.loadsAt_vmem h_S16x256)) fun own =>
  .op (.load recvM rRecv.toLoadRect (View.loadsAt_vmem h_S15x16x256)) fun got =>
  .op (.load outM (rOwn c).toLoadRect (View.loadsAt_vmem h_S16x256)) fun _ =>
  .op (.store outM (rOwn c) (k0_pay7 sh own got) Finset.univ (View.stores_vmem_bits_univ h_S16x256 rfl) (.inl rfl)) fun _ =>
  steps (stGather c) (steps (stScatterSent c) (steps (stGatherSent c) (steps (stGatherGot c) (.ret ⟨⟩) ks15) ks15) ks15) ks15

/-- From the partial sum on: what follows the handshake. -/
def bodyScatter (c : Dev nD) : KProg F PUnit :=
  .op (.load xM rX.toLoadRect (View.loadsAt_vmem h_S256x128)) fun x =>
  .op (.load rwM rRw.toLoadRect (View.loadsAt_vmem h_S128x32)) fun rw =>
  .op (.load idxM rIdx.toLoadRect (View.loadsAt_vmem h_S256x1)) fun idx =>
  .op (.load ewM rEw0.toLoadRect (View.loadsAt_vmem h_S1x128x256)) fun w0 =>
  .op (.load ewM rEw1.toLoadRect (View.loadsAt_vmem h_S1x128x256)) fun w1 =>
  .op (.load accM rFull.toLoadRect (View.loadsAt_vmem h_S256x256)) fun _ =>
  .op (.store accM rFull (partVal c x rw idx w0 w1) Finset.univ (View.stores_vmem_bits_univ h_S256x256 rfl) (.inl rfl)) fun _ =>
  steps (stScatter c)
    (.op (.load xM (rXc c).toLoadRect (View.loadsAt_vmem h_S16x128)) fun xc =>
     .op (.load swM rSw.toLoadRect (View.loadsAt_vmem h_S128x256)) fun sw =>
     steps stScatterGot (bodyGather c (k0_pay6 xc sw)) ks15) ks15

/-- The whole body on device `c`. -/
def bodyAt (c : Dev nD) : KProg F PUnit :=
  steps (stSignal c) (.op (.semWait barS 15) fun _ => bodyScatter c) ks15

set_option maxRecDepth 65536 in
/-- The printed body is that program. -/
theorem body_eq : cc0_body (F := F) xM (Memref.isWhole_whole _) rwM (Memref.isWhole_whole _) idxM (Memref.isWhole_whole _)
      ewM (Memref.isWhole_whole _) swM (Memref.isWhole_whole _) outM (Memref.isWhole_whole _) accM (Memref.isWhole_whole _)
      recvM (Memref.isWhole_whole _) cc0_scratch2 cc0_scratch3 cc0_scratch4 cc0_scratch5
    = .op .deviceId fun c => bodyAt c := by
  rw [cc0_body_eq_skeleton]
  chain_rfl

end Cert.MoeProof

end
-- ==== Proof.Layout.lean ====
/-
# Who talks to whom, and where the rows go

The sixteen devices as the fifteen distances name them, the buffers cut into sixteen-row pieces and slots, and the
contents the pieces end up with.
-/
module

public import proofs.«01_k».proof.Proof.Steps
public import Idealize.ShloMosaic.Lib.Ring
public import Idealize.ShloMosaic.Lib.ViewIndex
public import Idealize.ShloMosaic.Lib.ValueLayout

@[expose] public section

noncomputable section

namespace Cert.MoeProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Distances -/

/-- The device at distance `k + 1` ahead. -/
def ahead (c : Dev nD) (k : Fin 15) : Dev nD := ⟨(c.val + k.val + 1) % 16, Nat.mod_lt _ (by decide)⟩
/-- The device at distance `k + 1` behind. -/
def behind (c : Dev nD) (k : Fin 15) : Dev nD := ⟨((c.val + 15) - k.val) % 16, Nat.mod_lt _ (by decide)⟩

theorem behind_ahead (c : Dev nD) (k : Fin 15) : behind (ahead c k) k = c := by revert c k; decide +kernel
theorem ahead_behind (c : Dev nD) (k : Fin 15) : ahead (behind c k) k = c := by revert c k; decide +kernel
/-- The device `k + 1` behind is the one `15 - k` ahead. -/
theorem ahead_rev (c : Dev nD) (k : Fin 15) : ahead c k.rev = behind c k := by revert c k; decide +kernel
theorem behind_rev (c : Dev nD) (k : Fin 15) : behind c k.rev = ahead c k := by revert c k; decide +kernel
theorem ahead_injective (c : Dev nD) : Function.Injective (ahead c) := by revert c; decide +kernel
theorem ahead_ne (c : Dev nD) (k : Fin 15) : ahead c k ≠ c := by revert c k; decide +kernel
theorem univ_erase (c : Dev nD) : (Finset.univ.erase c : Finset (Dev nD)) = Finset.univ.map ⟨ahead c, ahead_injective c⟩ := by
  revert c; decide +kernel

/-- At a fixed distance, going ahead permutes the devices. -/
def shift (k : Fin 15) : Dev nD ≃ Dev nD := ⟨fun c => ahead c k, fun c => behind c k, fun c => behind_ahead c k, fun c => ahead_behind c k⟩

omit [FloatOps F] in
/-- All devices are this one and its fifteen peers. -/
theorem bigSep_peers {M : Type} [URA M] (c : Dev nD) (Φ : Dev nD → sProp M) :
    bigSep Finset.univ Φ = iprop(Φ c ∗ bigSep Finset.univ fun k => Φ (ahead c k)) := by
  rw [bigSep_univ_at Φ c, univ_erase, bigSep_map]; rfl

/-! ## The peers the kernel names -/

theorem sigDev_eq (c : Dev nD) (k : Fin 15) : sigDev c k = ahead c k := by
  revert c k; decide +kernel
theorem rsDev_eq (c : Dev nD) (k : Fin 15) : rsDev c k = ahead c k := by
  revert c k; decide +kernel
theorem agDev_eq (c : Dev nD) (k : Fin 15) : agDev c k = ahead c k := by
  revert c k; decide +kernel

/-! ## Sixteen-row pieces -/

theorem inb_rows (d : Dev nD) : ∀ a, (![16 * d.val, 0] : Fin 2 → Nat) a + S16x256.size a ≤ S256x256.size a := by
  revert d; decide +kernel

/-- The rows of device `d`. -/
abbrev rowsM (M : Memref sig .tc .vmem S256x256 .f32) (d : Dev nD) : Memref sig .tc .vmem S16x256 .f32 :=
  rowsAt M ![16 * d.val, 0] (inb_rows d)

theorem rowsAt_eq (M : Memref sig .tc .vmem S256x256 .f32) {off : Fin 2 → Nat} (h) {d : Dev nD} (e : off = ![16 * d.val, 0]) :
    rowsAt M off h = rowsM M d := by subst e; rfl

/-! ## The steps with their peers and rows named -/

theorem stSignal_eq (c : Dev nD) (k : Fin 15) : stSignal (F := F) c k = Prog.lift (.semSignal (ahead c k) barS 1) := by
  unfold stSignal; rw [sigDev_eq]

theorem stScatter_eq (c : Dev nD) (k : Fin 15) : stScatter (F := F) c k =
    Prog.lift (.enqueueDma (rowsM accM (ahead c k)) (.remote (Dev.tc (ahead c k)) (slotM k) (.dma (dsem 0 k))) (.dma (dsem 1 k))
      (View.wordExact_bits rfl) ((View.wordExact_bits rfl).reshape _ _) ⟨⟨rfl, Or.inl rfl⟩, trivial⟩) := by
  have h : ∀ (off : Fin 2 → Nat) (hi) (d : Dev nD) (_ : off = ![16 * (ahead c k).val, 0]) (_ : d = ahead c k),
      (Prog.lift (.enqueueDma (rowsAt accM off hi) (.remote (Dev.tc d) (slotM k) (.dma (dsem 0 k))) (.dma (dsem 1 k))
        (View.wordExact_bits rfl) ((View.wordExact_bits rfl).reshape _ _) ⟨⟨rfl, Or.inl rfl⟩, trivial⟩) : KProg F PUnit)
      = Prog.lift (.enqueueDma (rowsM accM (ahead c k)) (.remote (Dev.tc (ahead c k)) (slotM k) (.dma (dsem 0 k))) (.dma (dsem 1 k))
        (View.wordExact_bits rfl) ((View.wordExact_bits rfl).reshape _ _) ⟨⟨rfl, Or.inl rfl⟩, trivial⟩) := by
    intro off hi d e₁ e₂; subst e₁ e₂; rfl
  exact h _ _ _ (k0_off1_eq c k) (rsDev_eq c k)

theorem stGather_eq (c : Dev nD) (k : Fin 15) : stGather (F := F) c k =
    Prog.lift (.enqueueDma (rowsM outM c) (.remote (Dev.tc (ahead c k)) (rowsM outM c) (.dma (dsem 2 k))) (.dma (dsem 3 k))
      (View.wordExact_bits rfl) (View.wordExact_bits rfl) ⟨⟨rfl, Or.inl rfl⟩, trivial⟩) := by
  have h : ∀ (off : Fin 2 → Nat) (hi) (d : Dev nD) (_ : off = ![16 * c.val, 0]) (_ : d = ahead c k),
      (Prog.lift (.enqueueDma (rowsAt outM off hi) (.remote (Dev.tc d) (rowsAt outM off hi) (.dma (dsem 2 k))) (.dma (dsem 3 k))
        (View.wordExact_bits rfl) (View.wordExact_bits rfl) ⟨⟨rfl, Or.inl rfl⟩, trivial⟩) : KProg F PUnit)
      = Prog.lift (.enqueueDma (rowsM outM c) (.remote (Dev.tc (ahead c k)) (rowsM outM c) (.dma (dsem 2 k))) (.dma (dsem 3 k))
        (View.wordExact_bits rfl) (View.wordExact_bits rfl) ⟨⟨rfl, Or.inl rfl⟩, trivial⟩) := by
    intro off hi d e₁ e₂; subst e₁ e₂; rfl
  exact h _ _ _ (k0_off4_eq c) (agDev_eq c k)

/-! ## The pieces cut their buffers -/

/-- The elements of a 256-row buffer in device `d`'s rows. -/
abbrev rowSet (d : Dev nD) : Finset S256x256.Idx := (Rect.unit (s := S256x256) ![16 * d.val, 0] S16x256.size (inb_rows d)).set
/-- The elements of the landing buffer in slot `k`. -/
abbrev slotSet (k : Fin 15) : Finset S15x16x256.Idx := (Rect.unit (s := S15x16x256) ![k.val, 0, 0] S1x16x256.size (inb_slot k)).set

theorem acc_set (d : Dev nD) : (rowsM accM d).view.set = rowSet d := View.set_slice_whole cc0_scratch0 _
theorem out_set (d : Dev nD) : (rowsM outM d).view.set = rowSet d := View.set_slice_whole cc0_stg5_0 _
theorem slot_set (k : Fin 15) : (slotM k).view.set = slotSet k :=
  (View.set_reshape _ _).trans (View.set_slice_whole cc0_scratch1 _)

theorem rows_disjoint (d d' : Dev nD) (h : d ≠ d') : Disjoint (rowSet d) (rowSet d') :=
  Ring.lead_disjoint (s := S256x256) (NB := 16) 0 16 (fun d => ![16 * d.val, 0]) S16x256.size inb_rows (fun _ => rfl) rfl d d' h
theorem rows_cover : Finset.univ.biUnion rowSet = Finset.univ :=
  Ring.lead_cover (s := S256x256) (NB := 16) 0 16 (fun d => ![16 * d.val, 0]) S16x256.size inb_rows (fun _ => rfl)
    (fun b a h => by fin_cases a; exact absurd rfl h; rfl) rfl (fun a h => by fin_cases a; exact absurd rfl h; rfl) rfl
theorem slot_disjoint (k k' : Fin 15) (h : k ≠ k') : Disjoint (slotSet k) (slotSet k') :=
  Ring.lead_disjoint (s := S15x16x256) (NB := 15) 0 1 (fun k => ![k.val, 0, 0]) S1x16x256.size inb_slot
    (fun k => (Nat.one_mul _).symm) rfl k k' h
theorem slot_cover : Finset.univ.biUnion slotSet = Finset.univ :=
  Ring.lead_cover (s := S15x16x256) (NB := 15) 0 1 (fun k => ![k.val, 0, 0]) S1x16x256.size inb_slot
    (fun k => (Nat.one_mul _).symm) (fun b a h => by fin_cases a; exact absurd rfl h; rfl; rfl) rfl
    (fun a h => by fin_cases a; exact absurd rfl h; rfl; rfl) rfl

/-! ## Contents

`P c` is device `c`'s partial sum, `Y c` its finished rows. -/

/-- Row `16 d + r` of a 256-row array. -/
def rowOf (d : Dev nD) (r : Fin 16) : Fin 256 := ⟨16 * d.val + r.val, by have := d.isLt; have := r.isLt; show _ < 256; change d.val < 16 at *; omega⟩

def ixRows (r : Fin 256) (j : Fin 256) : S256x256.Idx := fun a => match a with | ⟨0, _⟩ => r | ⟨1, _⟩ => j
def ixPiece (r : Fin 16) (j : Fin 256) : S16x256.Idx := fun a => match a with | ⟨0, _⟩ => r | ⟨1, _⟩ => j
def ixSlot (k : Fin 15) (r : Fin 16) (j : Fin 256) : S15x16x256.Idx := fun a => match a with | ⟨0, _⟩ => k | ⟨1, _⟩ => r | ⟨2, _⟩ => j

/-- What device `c`'s landing buffer holds after the scatter: its rows of its peers' partial sums. -/
def landedAll (P : Dev nD → FVec F S256x256 .f32) (c : Dev nD) : FVec F S15x16x256 .f32 :=
  fun i => P (behind c (i 0)) (ixRows (rowOf c (i 1)) (i 2))

/-- What every device's result holds after the gather: each device's finished rows in their place. -/
def gathered (Y : Dev nD → FVec F S16x256 .f32) : FVec F S256x256 .f32 :=
  fun i => Y ⟨(i 0).val / 16, by have := (i 0).isLt; change (i 0).val < 256 at this; show _ < 16; omega⟩
    (ixPiece ⟨(i 0).val % 16, Nat.mod_lt _ (by decide)⟩ (i 1))

omit [FloatOps F] in
/-- A sixteen-row piece of the sums reads the device's rows. -/
theorem read_acc (d : Dev nD) (f : FVec F S256x256 .f32) (x : S16x256.Idx) :
    (rowsM accM d).view.read (Elt F) f x = f (ixRows (rowOf d (x 0)) (x 1)) := by
  show f _ = f _
  refine congrArg f (funext fun a => ?_)
  fin_cases a
  · exact Fin.ext (show 16 * d.val + 1 * (x 0).val = _ by rw [Nat.one_mul]; rfl)
  · exact Fin.ext (show 0 + 1 * (x 1).val = _ by rw [Nat.one_mul, Nat.zero_add]; rfl)

omit [FloatOps F] in
theorem read_out (d : Dev nD) (f : FVec F S256x256 .f32) (x : S16x256.Idx) :
    (rowsM outM d).view.read (Elt F) f x = f (ixRows (rowOf d (x 0)) (x 1)) := by
  show f _ = f _
  refine congrArg f (funext fun a => ?_)
  fin_cases a
  · exact Fin.ext (show 16 * d.val + 1 * (x 0).val = _ by rw [Nat.one_mul]; rfl)
  · exact Fin.ext (show 0 + 1 * (x 1).val = _ by rw [Nat.one_mul, Nat.zero_add]; rfl)

omit [FloatOps F] in
theorem read_slot (k : Fin 15) (f : FVec F S15x16x256 .f32) (x : S16x256.Idx) :
    (slotM k).view.read (Elt F) f x = f (ixSlot k (x 0) (x 1)) := by
  show f ((Rect.unit (s := S15x16x256) ![k.val, 0, 0] S1x16x256.size (inb_slot k)).emb (Shape.reshapeEquiv (s := S1x16x256) (s' := S16x256) squeezes_S1x16x256_S16x256.numel_eq x)) = f _
  rw [show Shape.reshapeEquiv (s := S1x16x256) (s' := S16x256) squeezes_S1x16x256_S16x256.numel_eq x = _ from
    (congrArg (Shape.reshapeEquiv (s := S1x16x256) (s' := S16x256) squeezes_S1x16x256_S16x256.numel_eq) (eq_ix2 (n0 := 16) (n1 := 256) x)).trans
      (reshapeEquiv_ix2_1ab (a := 16) (b := 256) _ (x 0) (x 1))]
  refine congrArg f (funext fun a => ?_)
  fin_cases a
  · exact Fin.ext (show k.val + 1 * 0 = k.val by rw [Nat.mul_zero, Nat.add_zero])
  · exact Fin.ext (show 0 + 1 * (x 0).val = (x 0).val by rw [Nat.one_mul, Nat.zero_add])
  · exact Fin.ext (show 0 + 1 * (x 1).val = (x 1).val by rw [Nat.one_mul, Nat.zero_add])

omit [FloatOps F] in
/-- What a peer sends a device is what its landing buffer is to hold. -/
theorem slot_landed (P : Dev nD → FVec F S256x256 .f32) (c : Dev nD) (k : Fin 15) :
    (slotM k).view.read (Elt F) (landedAll P (ahead c k)) = (rowsM accM (ahead c k)).view.read (Elt F) (P c) := by
  funext x; rw [read_slot, read_acc]
  show P (behind (ahead c k) k) _ = _
  rw [behind_ahead]; rfl

omit [FloatOps F] in
/-- A device's rows of the gathered result are its finished rows. -/
theorem out_gathered (Y : Dev nD → FVec F S16x256 .f32) (d : Dev nD) :
    (rowsM outM d).view.read (Elt F) (gathered Y) = Y d := by
  funext x; rw [read_out]
  have h0 : (x 0).val < 16 := (x 0).isLt
  have h1 : (16 * d.val + (x 0).val) / 16 = d.val := by omega
  have h2 : (16 * d.val + (x 0).val) % 16 = (x 0).val := by omega
  have e1 : (⟨(16 * d.val + (x 0).val) / 16, by rw [h1]; exact d.isLt⟩ : Dev nD) = d := Fin.ext h1
  have e2 : ixPiece ⟨(16 * d.val + (x 0).val) % 16, Nat.mod_lt _ (by decide)⟩ (x 1) = x := by
    funext a; fin_cases a
    · exact Fin.ext h2
    · rfl
  show Y (⟨(16 * d.val + (x 0).val) / 16, _⟩ : Dev nD) (ixPiece ⟨(16 * d.val + (x 0).val) % 16, _⟩ (x 1)) = Y d x
  rw [e1, e2]

end Cert.MoeProof

end
-- ==== Proof.Protocol.lean ====
/-
# The protocol of the exchange

Every semaphore is used for one round. A device's barrier semaphore gets one unit from each of its fifteen peers; the
unit from peer `s` hands over `s`'s landing slot for this device's rows and `s`'s place for this device's finished rows,
so that no transfer can arrive at a device that has not entered yet. Each of the sixty transfer semaphores gets the credit
of one sixteen-row piece, and hands back or over the piece the transfer read or wrote.

Devices wait at the barrier owing both rows of transfers, at the scatter's arrivals owing the gather only, and at the
gather's arrivals owing nothing, so the levels barrier < scattered < gathered make every wait one that ends.
-/
module

public import proofs.«01_k».proof.Proof.Layout

@[expose] public section

noncomputable section

namespace Cert.MoeProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)

variable {F : FTy → Type} [FloatOps F]

/-- The protocol's ghost state, its duties numbered by the distance of who pays them; and the pipeline's beside it. -/
abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Cells -/

abbrev barCell (c : Dev nD) : GSem nD τ sig := ((c : Thread nD τ), .reg barS)
abbrev dCell (c : Dev nD) (j : Fin 4) (k : Fin 15) : GSem nD τ sig := ((c : Thread nD τ), .dma (dsem j k))

/-- Which array and place of it a transfer semaphore is, if it is one of the sixty. -/
def place (q : DmaSem sig) : Option (Fin 4 × Fin 15) :=
  (List.finRange 4).findSome? fun j => (List.finRange 15).findSome? fun k => if q = dsem j k then some (j, k) else none

theorem place_dsem (j : Fin 4) (k : Fin 15) : place (dsem j k) = some (j, k) := by revert j k; decide +kernel

theorem dsem_inj {j j' : Fin 4} {k k' : Fin 15} (h : dsem j k = dsem j' k') : (j, k) = (j', k') :=
  Option.some.inj ((place_dsem j k).symm.trans ((congrArg place h).trans (place_dsem j' k')))

/-- The credit of a sixteen-row piece. -/
abbrev N : ℕ := (rowsM outM 0).view.dmaCredit
theorem N_pos : 0 < N := View.dmaCredit_pos _ (by decide)

/-! ## What is held of the buffers -/

/-- Device `d`'s rows of device `c`'s sums. -/
def accPts (c d : Dev nD) (f : FVec F S256x256 .f32) : sProp 𝕄 :=
  ((c : Thread nD τ).loc cc0_scratch0) ↦[rowSet d]{fullShare} f
/-- Device `d`'s rows of device `c`'s result. -/
def outPts (q : PosShare TreeShare) (c d : Dev nD) (f : FVec F S256x256 .f32) : sProp 𝕄 :=
  ((c : Thread nD τ).loc cc0_stg5_0) ↦[rowSet d]{q} f
/-- Slot `k` of device `c`'s landing buffer. -/
def slotPts (c : Dev nD) (k : Fin 15) (f : FVec F S15x16x256 .f32) : sProp 𝕄 :=
  ((c : Thread nD τ).loc cc0_scratch1) ↦[slotSet k]{fullShare} f

instance accPts_storable (c d : Dev nD) (f) : BI.Storable (upEmb : UEmb _ 𝕄) (accPts (F := F) c d f) := by unfold accPts; infer_instance
instance outPts_storable (q) (c d : Dev nD) (f) : BI.Storable (upEmb : UEmb _ 𝕄) (outPts (F := F) q c d f) := by unfold outPts; infer_instance
instance slotPts_storable (c : Dev nD) (k) (f) : BI.Storable (upEmb : UEmb _ 𝕄) (slotPts (F := F) c k f) := by unfold slotPts; infer_instance

/-! ## The schedule -/

variable (P : Dev nD → FVec F S256x256 .f32) (Y : Dev nD → FVec F S16x256 .f32)

/-- What the peer at distance `k + 1` behind hands device `c` when it enters. -/
def barPay (c : Dev nD) (k : Fin 15) : sProp 𝕄 :=
  iprop((∃ f, slotPts (behind c k) k.rev f) ∗ ∃ f, outPts fullShare (behind c k) c f)

/-- What a transfer semaphore hands its owner: the sums back, the peer's sums, the finished rows back, the peer's finished rows. -/
def dmaPay (c : Dev nD) : Fin 4 → Fin 15 → sProp 𝕄
  | 0, k => accPts c (ahead c k) (P c)
  | 1, k => slotPts c k (landedAll P c)
  | 2, k => outPts (shareTok fullShare 15 k) c c (gathered Y)
  | 3, k => outPts fullShare c (behind c k) (gathered Y)

instance barPay_storable (c : Dev nD) (k) : BI.Storable (upEmb : UEmb _ 𝕄) (barPay (F := F) c k) := by unfold barPay; infer_instance
instance dmaPay_storable (c : Dev nD) (j k) : BI.Storable (upEmb : UEmb _ 𝕄) (dmaPay (F := F) P Y c j k) := by
  fin_cases j <;> (simp only [dmaPay]; infer_instance)

/-- What a semaphore hands its owner for duty `d`. -/
def semPay (c : Dev nD) (d : Fin 15) : SemLoc sig → sProp 𝕄
  | .reg _ => barPay c d
  | .dma q => match place q with | some jk => dmaPay P Y c jk.1 jk.2 | none => iprop(emp)

/-- The duties of a semaphore's one round. -/
def semDuties : SemLoc sig → Finset (Fin 15)
  | .reg s => if s = barS then Finset.univ else ∅
  | .dma q => if (place q).isSome then {0} else ∅

/-- The units of each duty. -/
def semAmount : SemLoc sig → ℕ
  | .reg _ => 1
  | .dma _ => N
theorem semAmount_pos (s : SemLoc sig) : 0 < semAmount s := by
  cases s
  · exact Nat.one_pos
  · exact N_pos

def sched : Rounds.Schedule (GSem nD τ sig) (Fin 15) 𝕄 where
  duties g r := if r = 0 ∧ g.1.2 = .tc then semDuties g.2 else ∅
  unitless _ := False
  amount g _ _ := semAmount g.2
  payload g _ d := semPay P Y g.1.1 d g.2
  amount_pos g _ _ _ := semAmount_pos g.2

instance sched_storable (g : GSem nD τ sig) (r : ℕ) (d : Fin 15) :
    BI.Storable (upEmb : UEmb _ 𝕄) ((sched (F := F) P Y).payload g r d) := by
  show BI.Storable upEmb (semPay P Y g.1.1 d g.2)
  unfold semPay
  (repeat' split) <;> infer_instance

theorem duties_bar (c : Dev nD) : (sched P Y).duties (barCell c) 0 = Finset.univ := by
  dsimp only [sched]; rw [if_pos ⟨rfl, rfl⟩]; dsimp only [semDuties]; exact if_pos rfl
theorem duties_dma (c : Dev nD) (j k) : (sched P Y).duties (dCell c j k) 0 = {0} := by
  dsimp only [sched]; rw [if_pos ⟨rfl, rfl⟩]; dsimp only [semDuties]; rw [place_dsem]; rfl
theorem duties_later (g : GSem nD τ sig) (r : ℕ) (h : 0 + 1 ≤ r) : (sched P Y).duties g r = ∅ := if_neg fun e => by omega

theorem amount_bar (c : Dev nD) (d) : (sched P Y).amount (barCell c) 0 d = 1 := rfl
theorem amount_dma (c : Dev nD) (j k d) : (sched P Y).amount (dCell c j k) 0 d = N := rfl

theorem expect_bar (c : Dev nD) : (sched P Y).expect (barCell c) 0 = 15 := by
  unfold Schedule.expect Schedule.amountOf
  rw [duties_bar, Finset.sum_congr rfl fun d _ => amount_bar P Y c d]; rfl
theorem expect_dma (c : Dev nD) (j k) : (sched P Y).expect (dCell c j k) 0 = N := by
  unfold Schedule.expect Schedule.amountOf; rw [duties_dma, Finset.sum_singleton, amount_dma]

theorem payload_bar (c : Dev nD) (d) : (sched P Y).payload (barCell c) 0 d = barPay c d := rfl
theorem payload_dma (c : Dev nD) (j k d) : (sched P Y).payload (dCell c j k) 0 d = dmaPay P Y c j k := by
  show semPay P Y c d (.dma (dsem j k)) = _
  dsimp only [semPay]; rw [place_dsem]

theorem rest_bar (c : Dev nD) : bigSep ((sched P Y).duties (barCell c) 0 \ ∅) (fun d => (sched P Y).payload (barCell c) 0 d)
    = bigSep Finset.univ fun k => barPay c k := by
  rw [Finset.sdiff_empty, duties_bar]; rfl
theorem rest_dma (c : Dev nD) (j k) : bigSep ((sched P Y).duties (dCell c j k) 0 \ ∅) (fun d => (sched P Y).payload (dCell c j k) 0 d)
    = dmaPay P Y c j k := by
  rw [Finset.sdiff_empty, duties_dma, bigSep_singleton, payload_dma]

/-! ## Debts and levels -/

/-- The debts numbered `n` and up of a row of fifteen. -/
def owedFrom (f : Fin 15 → CellTallies nD τ sig Unit) (n : ℕ) : CellTallies nD τ sig Unit :=
  ∑ j ∈ Finset.univ.filter (fun j : Fin 15 => n ≤ j.val), f j

theorem owedFrom_step (f : Fin 15 → CellTallies nD τ sig Unit) (k : Fin 15) : owedFrom f k.val = owedFrom f (k.val + 1) + f k := by
  unfold owedFrom
  rw [show (Finset.univ.filter fun j : Fin 15 => k.val ≤ j.val) = insert k (Finset.univ.filter fun j : Fin 15 => k.val + 1 ≤ j.val) from by
    ext j; simp only [Finset.mem_filter, Finset.mem_univ, true_and, Finset.mem_insert, Fin.ext_iff]; omega,
    Finset.sum_insert (by simp), add_comm]
theorem owedFrom_end (f : Fin 15 → CellTallies nD τ sig Unit) : owedFrom f 15 = 0 := by
  unfold owedFrom
  rw [Finset.filter_false_of_mem fun j _ => by have := j.isLt; omega, Finset.sum_empty]
theorem owedFrom_zero (f : Fin 15 → CellTallies nD τ sig Unit) : owedFrom f 0 = ∑ j, f j := by
  unfold owedFrom; rw [Finset.filter_true_of_mem fun j _ => Nat.zero_le _]

/-- A unit to each peer's barrier, -/
def dueBar (c : Dev nD) (k : Fin 15) : CellTallies nD τ sig Unit := tallyAt (barCell (ahead c k)) () 1
/-- a piece to each peer's landing slot, -/
def dueRs (c : Dev nD) (k : Fin 15) : CellTallies nD τ sig Unit := tallyAt (dCell (ahead c k) 1 k) () N
/-- and a piece to each peer's result. -/
def dueAg (c : Dev nD) (k : Fin 15) : CellTallies nD τ sig Unit := tallyAt (dCell (ahead c k) 3 k) () N

/-- What device `c` owes at launch. -/
def O₀ (c : Dev nD) : CellTallies nD τ sig Unit := owedFrom (dueAg c) 0 + owedFrom (dueRs c) 0 + owedFrom (dueBar c) 0

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- Barrier 1, scattered 2, gathered 3, everything else 0. -/
def semLv : SemLoc sig → ℕ
  | .reg _ => 1
  | .dma q => match place q with | some (1, _) => 2 | some (3, _) => 3 | _ => 0
def lv (g : GSem nD τ sig) (_ : Unit) : ℕ := semLv g.2

theorem lv_dma (c : Dev nD) (j k u) : lv (dCell c j k) u = if j = 1 then 2 else if j = 3 then 3 else 0 := by
  show (match place (dsem j k) with | some (1, _) => 2 | some (3, _) => 3 | _ => 0) = _
  rw [place_dsem]; fin_cases j <;> rfl

theorem due_pos {f : Fin 15 → GSem nD τ sig} {a n : ℕ} {g : GSem nD τ sig} {u : Unit}
    (h : 0 < owedFrom (fun k => tallyAt (f k) () a) n g u) : ∃ k, g = f k := by
  unfold owedFrom at h
  rw [Finset.sum_apply, Finsupp.finset_sum_apply] at h
  obtain ⟨k, _, hk⟩ := Finset.exists_ne_zero_of_sum_ne_zero (Nat.pos_iff_ne_zero.mp h)
  rw [tallyAt_apply] at hk
  exact ⟨k, by by_contra hn; exact hk (if_neg fun e => hn e.1)⟩

/-- A device may wait on a semaphore below everything it owes. -/
theorem mayWait_below (c : Dev nD) (sm : SemLoc sig) (O : CellTallies nD τ sig Unit)
    (h : ∀ g u, 0 < O g u → g.1.2 = .tc ∧ semLv sm < lv g u) : (levAts L lv : sProp 𝕄) ⊢ MayWait (c : Thread nD τ) sm () O :=
  MayOwe.of_cut (L := L) (lev := lv) (semLv sm) (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact le_refl _)
    (fun g u hg => (h g u hg).2)

theorem add_pos_cases {O O' : CellTallies nD τ sig Unit} {g : GSem nD τ sig} {u : Unit} (h : 0 < (O + O') g u) :
    0 < O g u ∨ 0 < O' g u := by rw [Pi.add_apply, Finsupp.add_apply] at h; omega

theorem ag_above {c : Dev nD} {n : ℕ} {g : GSem nD τ sig} {u : Unit} (h : 0 < owedFrom (dueAg c) n g u) : g.1.2 = .tc ∧ lv g u = 3 := by
  obtain ⟨k, rfl⟩ := due_pos (f := fun k => dCell (ahead c k) 3 k) h
  exact ⟨rfl, by rw [lv_dma]; rfl⟩
theorem rs_above {c : Dev nD} {n : ℕ} {g : GSem nD τ sig} {u : Unit} (h : 0 < owedFrom (dueRs c) n g u) : g.1.2 = .tc ∧ lv g u = 2 := by
  obtain ⟨k, rfl⟩ := due_pos (f := fun k => dCell (ahead c k) 1 k) h
  exact ⟨rfl, by rw [lv_dma]; rfl⟩
theorem bar_above {c : Dev nD} {n : ℕ} {g : GSem nD τ sig} {u : Unit} (h : 0 < owedFrom (dueBar c) n g u) : g.1.2 = .tc ∧ lv g u = 1 := by
  obtain ⟨k, rfl⟩ := due_pos (f := fun k => barCell (ahead c k)) h
  exact ⟨rfl, rfl⟩

theorem mayWait_bar (c : Dev nD) :
    (levAts L lv : sProp 𝕄) ⊢ MayWait (c : Thread nD τ) (.reg barS) () (owedFrom (dueAg c) 0 + owedFrom (dueRs c) 0) :=
  mayWait_below c _ _ fun g u h => by
    rcases add_pos_cases h with h | h
    · exact ⟨(ag_above h).1, by rw [(ag_above h).2]; decide⟩
    · exact ⟨(rs_above h).1, by rw [(rs_above h).2]; decide⟩

theorem mayWait_got (c : Dev nD) (k : Fin 15) :
    (levAts L lv : sProp 𝕄) ⊢ MayWait (c : Thread nD τ) (.dma (dsem 1 k)) () (owedFrom (dueAg c) 0) :=
  mayWait_below c _ _ fun g u h => by
    have e : semLv (.dma (dsem 1 k)) = 2 := (lv_dma c 1 k ()).trans rfl
    exact ⟨(ag_above h).1, by rw [(ag_above h).2, e]; decide⟩

theorem mayWait_stage (c : Dev nD) (q : DmaSem sig) (hq : place q = none) (O : CellTallies nD τ sig Unit) (hO : O = O₀ c ∨ O = 0) :
    (levAts L lv : sProp 𝕄) ⊢ MayWait (c : Thread nD τ) (.dma q) () O := by
  rcases hO with rfl | rfl
  · refine mayWait_below c _ _ fun g u h => ?_
    have e : semLv (.dma q) = 0 := by show (match place q with | some (1, _) => 2 | some (3, _) => 3 | _ => 0) = 0; rw [hq]
    rw [e]
    rcases add_pos_cases h with h | h
    · rcases add_pos_cases h with h | h
      · exact ⟨(ag_above h).1, by rw [(ag_above h).2]; decide⟩
      · exact ⟨(rs_above h).1, by rw [(rs_above h).2]; decide⟩
    · exact ⟨(bar_above h).1, by rw [(bar_above h).2]; decide⟩
  · rw [MayWait_zero]; iintro -; iempintro

/-! ## The cells and their records -/

/-- A device's sixty-one cells: its barrier, and its transfer semaphores by array and place. -/
abbrev kcell (ck : Dev nD × Option (Fin 4 × Fin 15)) : GSem nD τ sig :=
  match ck.2 with | none => barCell ck.1 | some jk => dCell ck.1 jk.1 jk.2

theorem kcell_injective : Function.Injective kcell := by
  rintro ⟨c, k⟩ ⟨c', k'⟩ h
  have h1 : c = c' := by
    cases k <;> cases k' <;> exact congrArg (fun g : GSem nD τ sig => g.1.1) h
  subst h1
  have h2 := congrArg Prod.snd h
  cases k with
  | none => cases k' with
    | none => rfl
    | some b => cases h2
  | some a => cases k' with
    | none => cases h2
    | some b =>
      have : dsem a.1 a.2 = dsem b.1 b.2 := SemLoc.dma.inj h2
      rw [show a = b from dsem_inj this]

/-- Everyone's cells are in use, and open at their round. -/
def records (K : Dev nD × Option (Fin 4 × Fin 15) → ℕ) : sProp 𝕄 :=
  iprop((bigSep Finset.univ fun ck => cellInv ER (sched P Y) (K ck) (kcell ck)) ∗ bigSep Finset.univ fun ck => reached ER (kcell ck) 0)

instance records_persistent (K) : BI.Persistent (records P Y K) := by unfold records; infer_instance

theorem inv_at (K : Dev nD × Option (Fin 4 × Fin 15) → ℕ) (ck : Dev nD × Option (Fin 4 × Fin 15)) :
    (bigSep Finset.univ fun ck => (cellInv ER (sched P Y) (K ck) (kcell ck) : sProp 𝕄)) ⊢ cellInv ER (sched P Y) (K ck) (kcell ck) :=
  bigSep_elim (Finset.mem_univ ck)
theorem reached_at (ck : Dev nD × Option (Fin 4 × Fin 15)) :
    (bigSep Finset.univ fun ck => (reached ER (kcell ck) 0 : sProp 𝕄)) ⊢ reached ER (kcell ck) 0 :=
  bigSep_elim (Finset.mem_univ ck)

theorem records_at (K) (ck : Dev nD × Option (Fin 4 × Fin 15)) :
    records P Y K ⊢ iprop(cellInv ER (sched P Y) (K ck) (kcell ck) ∗ reached ER (kcell ck) 0) := by
  unfold records
  iintro ⟨HI, HR⟩
  isplitl [HI]
  · iapply (inv_at P Y K ck); iexact HI
  · iapply (reached_at (F := F) ck); iexact HR

end Cert.MoeProof

end
-- ==== Proof.Rows.lean ====
/-
# One rule for each row of steps

A row of fifteen like steps runs by one rule for one step: what step `k` needs and what it leaves are stated once for every
`k`, and `wp_steps` turns the rule of the step into the rule of the row.
-/
module

public import proofs.«01_k».proof.Proof.Protocol

@[expose] public section

noncomputable section

namespace Cert.MoeProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)

variable {F : FTy → Type} [FloatOps F]

local notation "𝕄" => MT nD τ sig Unit (Elt F) ℕ UU ℕ

abbrev 𝒱₀ : Variants := Variants.none

/-- The weakest precondition of a program on device `c`. -/
abbrev WP {α : Type} (c : Dev nD) (p : KProg F α) (Q : α → sProp 𝕄) : sProp 𝕄 :=
  wp frame (wpE (defs₀ (F := F)) 𝒱₀ (c : Thread nD τ) none) Set.univ p Q

/-! ## Rows -/

/-- A row in progress: the first `n` steps done. -/
def row (n : ℕ) (Pre Post : Fin 15 → sProp 𝕄) : sProp 𝕄 :=
  bigSep Finset.univ fun j : Fin 15 => if j.val < n then Post j else Pre j

theorem row_zero (Pre Post : Fin 15 → sProp 𝕄) : row 0 Pre Post = bigSep Finset.univ Pre :=
  bigSep_congr fun j _ => if_neg (Nat.not_lt_zero _)
theorem row_end (Pre Post : Fin 15 → sProp 𝕄) : row 15 Pre Post = bigSep Finset.univ Post :=
  bigSep_congr fun j _ => if_pos j.isLt
theorem row_step (Pre Post : Fin 15 → sProp 𝕄) (k : Fin 15) :
    row k.val Pre Post ⊢ iprop(Pre k ∗ (Post k -∗ row (k.val + 1) Pre Post)) := by
  have h := bigSep_univ_update (Φ := fun j : Fin 15 => if j.val < k.val then Post j else Pre j)
    (Ψ := fun j : Fin 15 => if j.val < k.val + 1 then Post j else Pre j) k
    (fun j hj => by
      have hn : j.val ≠ k.val := fun e => hj (Fin.ext e)
      by_cases h : j.val < k.val
      · rw [if_pos h, if_pos (Nat.lt_succ_of_lt h)]
      · rw [if_neg h, if_neg (by omega)])
  rw [if_neg (Nat.lt_irrefl _), if_pos (Nat.lt_succ_self _)] at h
  exact h

variable {c : Dev nD} {α : Type}

theorem wp_steps_list (step : Fin 15 → KProg F PUnit) (rest : KProg F α) (Q : α → sProp 𝕄) (I : ℕ → sProp 𝕄)
    (h : ∀ (k : Fin 15) (p : KProg F α), I k.val ⊢ iprop((I (k.val + 1) -∗ WP c p Q) -∗ WP c (step k >>= fun _ => p) Q)) :
    ∀ (l : List (Fin 15)) (n : ℕ), l.map Fin.val = List.range' n l.length → n + l.length = 15 →
      I n ⊢ iprop((I 15 -∗ WP c rest Q) -∗ WP c (steps step rest l) Q)
  | [], n, _, hn => by
    obtain rfl : n = 15 := hn
    iintro HI Hk; unfold steps; iapply Hk; iexact HI
  | k :: ks, n, hl, hn => by
    have hk : k.val = n := (List.cons.inj hl).1
    subst hk
    have ih := wp_steps_list step rest Q I h ks (k.val + 1) (List.cons.inj hl).2 (by rw [List.length_cons] at hn; omega)
    iintro HI Hk
    unfold steps
    iapply (h k _) $$ HI
    iintro HI
    iapply ih $$ HI Hk

/-- A row of steps, by the rule of one step: from what every step needs to what every step leaves, a resource `R`
    passed along. -/
theorem wp_steps (step : Fin 15 → KProg F PUnit) (rest : KProg F α) (Q : α → sProp 𝕄) (R : ℕ → sProp 𝕄) (Pre Post : Fin 15 → sProp 𝕄)
    (h : ∀ (k : Fin 15) (p : KProg F α),
      iprop(R k.val ∗ Pre k) ⊢ iprop(((R (k.val + 1) ∗ Post k) -∗ WP c p Q) -∗ WP c (step k >>= fun _ => p) Q)) :
    iprop(R 0 ∗ bigSep Finset.univ Pre) ⊢ iprop(((R 15 ∗ bigSep Finset.univ Post) -∗ WP c rest Q) -∗ WP c (steps step rest ks15) Q) := by
  have := wp_steps_list (c := c) step rest Q (fun n => iprop(R n ∗ row n Pre Post)) (fun k p => by
    iintro ⟨HR, Hrow⟩ Hk
    ihave Hr := (row_step Pre Post k) $$ Hrow
    icases Hr with ⟨Hp, Hr⟩
    iapply (h k p) $$ [HR Hp]
    · isplitl [HR] <;> iassumption
    iintro ⟨HR, Hp⟩
    iapply Hk
    isplitl [HR]; · iexact HR
    iapply Hr; iexact Hp) ks15 0 (by decide) (by decide)
  rwa [row_zero, row_end] at this

/-! ## What every step carries -/

variable (P : Dev nD → FVec F S256x256 .f32) (Y : Dev nD → FVec F S16x256 .f32)
variable (K : Dev nD × Option (Fin 4 × Fin 15) → ℕ)

/-- The records, the levels, and what device `c` owes. -/
def base (c : Dev nD) (O : CellTallies nD τ sig Unit) : sProp 𝕄 :=
  iprop(records P Y K ∗ levAts L lv ∗ ∃ W, owes (c : Thread nD τ) O W)

/-! ## The handshake -/

def sigPre (c : Dev nD) (k : Fin 15) : sProp 𝕄 :=
  iprop(dutyTok ER (barCell (ahead c k)) 0 k ∗ (∃ f, slotPts c k.rev f) ∗ ∃ f, outPts fullShare c (ahead c k) f)

theorem wp_signal_step (X : CellTallies nD τ sig Unit) (Q : α → sProp 𝕄) (k : Fin 15) (p : KProg F α) :
    iprop(base P Y K c (X + owedFrom (dueBar c) k.val) ∗ sigPre c k)
      ⊢ iprop(((base P Y K c (X + owedFrom (dueBar c) (k.val + 1)) ∗ emp) -∗ WP c p Q) -∗ WP c (stSignal c k >>= fun _ => p) Q) := by
  rw [stSignal_eq]
  simp only [Prog.lift, Prog.bind_op, Prog.bind_ret]
  unfold base sigPre
  iintro ⟨⟨#HR, #Hlev, ⟨%W, HO⟩⟩, Htok, Hs, Ho⟩ Hk
  ihave Hrec := (records_at P Y K (ahead c k, none)) $$ HR
  icases Hrec with ⟨#HI, #Hr⟩
  iapply (Rounds.wp_signal 𝒱₀ ER (sched P Y) (c : Thread nD τ) none (dst := (ahead c k : Thread nD τ)) (κ := K (ahead c k, none))
      (d := k) (by rw [duties_bar]; exact Finset.mem_univ _) (amount_bar P Y (ahead c k) k) () (X + owedFrom (dueBar c) (k.val + 1))
      (O₀ := X + owedFrom (dueBar c) k.val) (by rw [owedFrom_step (dueBar c) k, add_assoc]; rfl)) $$ [HO Htok Hs Ho]
  · isplitr; · iexact HI
    isplitl [HO]; · iexact HO
    isplitl [Htok]; · iexact Htok
    isplitl [Hs Ho]
    · rw [payload_bar]; unfold barPay; rw [behind_ahead]
      isplitl [Hs] <;> iassumption
    iexact Hr
  iintro HO
  iapply Hk
  isplitl
  · isplitr; · iexact HR
    isplitr; · iexact Hlev
    iexists W; iexact HO
  iempintro

/-! ## The transfers -/

/-- What a transfer left at its target, as the contents `g` that read there as what was sent. -/
theorem landed_pts {sp : Space} {s : Shape} {e : EltTy} (v : View sig .tc sp s e) (d : Dev nD) {f g : v.ty.Contents (Elt F)}
    {x : s.Idx → Elt F e} (h : v.read (Elt F) g = x) :
    (v.loc (d : Thread nD τ) ↦[v.set]{fullShare} v.write (Elt F) f x Finset.univ : sProp 𝕄) ⊢ v.loc (d : Thread nD τ) ↦[v.set]{fullShare} g := by
  refine Entails.of_eq (pointsTo_congr fun i hi => ?_)
  obtain ⟨y, -, rfl⟩ := Finset.mem_map.mp hi
  exact View.eq_of_read_eq (v := v) (congrFun ((View.read_write_univ ..).trans h.symm) y)

def scatterPre (c : Dev nD) (k : Fin 15) : sProp 𝕄 :=
  iprop(dutyTok ER (dCell c 0 k) 0 0 ∗ dutyTok ER (dCell (ahead c k) 1 k) 0 0 ∗ accPts c (ahead c k) (P c) ∗ ∃ f, slotPts (ahead c k) k f)

theorem wp_scatter_step (X : CellTallies nD τ sig Unit) (Q : α → sProp 𝕄) (k : Fin 15) (p : KProg F α) :
    iprop(base P Y K c (X + owedFrom (dueRs c) k.val) ∗ scatterPre P c k)
      ⊢ iprop(((base P Y K c (X + owedFrom (dueRs c) (k.val + 1)) ∗ cred (tallyAt (dCell c 0 k) () N)) -∗ WP c p Q)
          -∗ WP c (stScatter c k >>= fun _ => p) Q) := by
  rw [stScatter_eq]
  simp only [Prog.lift, Prog.bind_op, Prog.bind_ret]
  unfold base scatterPre
  iintro ⟨⟨#HR, #Hlev, ⟨%W, HO⟩⟩, Ht0, Ht1, Ha, ⟨%f, Hs⟩⟩ Hk
  ihave Hrec := (records_at P Y K (c, some (0, k))) $$ HR
  icases Hrec with ⟨#HI0, #Hr0⟩
  ihave Hrec := (records_at P Y K (ahead c k, some (1, k))) $$ HR
  icases Hrec with ⟨#HI1, #Hr1⟩
  unfold accPts slotPts
  ihave Ha := (Entails.of_eq (show _ = ((rowsM accM (ahead c k)).view.loc (c : Thread nD τ) ↦[(rowsM accM (ahead c k)).view.set]{fullShare} P c : sProp 𝕄) from by
    rw [acc_set])) $$ Ha
  ihave Hs := (Entails.of_eq (show _ = ((slotM k).view.loc (ahead c k : Thread nD τ) ↦[(slotM k).view.set]{fullShare} f : sProp 𝕄) from by
    rw [slot_set])) $$ Hs
  iapply (Rounds.wp_send_pointsTo 𝒱₀ ER (sched P Y) (c : Thread nD τ) none (κ₁ := K (c, some (0, k))) (κ₂ := K (ahead c k, some (1, k)))
      (c' := (ahead c k : Thread nD τ)) (src := rowsM accM (ahead c k)) (dst := slotM k) (fs := P c) (fd := f)
      (r₁ := 0) (r₂ := 0) (d₁ := 0) (d₂ := 0)
      (by rw [duties_dma]; exact Finset.mem_singleton_self _) (by rw [duties_dma]; exact Finset.mem_singleton_self _)
      () () N rfl (amount_dma P Y c 0 k 0) (amount_dma P Y (ahead c k) 1 k 0) (X + owedFrom (dueRs c) (k.val + 1))
      (O₀ := X + owedFrom (dueRs c) k.val) (by rw [owedFrom_step (dueRs c) k, add_assoc]; rfl)
      (by rw [payload_dma]; show _ ⊢ accPts c (ahead c k) (P c); unfold accPts; rw [acc_set])
      (by
        rw [payload_dma]; show _ ⊢ slotPts (ahead c k) k (landedAll P (ahead c k)); unfold slotPts; rw [← slot_set]
        exact landed_pts (slotM k).view (ahead c k) (slot_landed P c k)))
    $$ [HO Ht0 Ht1 Ha Hs]
  · isplitr; · iexact HI0
    isplitr; · iexact HI1
    isplitl [Ha]; · iexact Ha
    isplitl [Hs]; · iexact Hs
    isplitl [HO]; · iexact HO
    isplitl [Ht0]; · iexact Ht0
    isplitr; · iexact Hr0
    isplitl [Ht1]; · iexact Ht1
    iexact Hr1
  iintro ⟨Hc, HO⟩
  iapply Hk
  isplitr [Hc]
  · isplitr; · iexact HR
    isplitr; · iexact Hlev
    iexists W; iexact HO
  iexact Hc

def gatherPre (c : Dev nD) (k : Fin 15) : sProp 𝕄 :=
  iprop(dutyTok ER (dCell c 2 k) 0 0 ∗ dutyTok ER (dCell (ahead c k) 3 k) 0 0 ∗ outPts (shareTok fullShare 15 k) c c (gathered Y)
    ∗ ∃ f, outPts fullShare (ahead c k) c f)

theorem wp_gather_step (X : CellTallies nD τ sig Unit) (Q : α → sProp 𝕄) (k : Fin 15) (p : KProg F α) :
    iprop(base P Y K c (X + owedFrom (dueAg c) k.val) ∗ gatherPre Y c k)
      ⊢ iprop(((base P Y K c (X + owedFrom (dueAg c) (k.val + 1)) ∗ cred (tallyAt (dCell c 2 k) () N)) -∗ WP c p Q)
          -∗ WP c (stGather c k >>= fun _ => p) Q) := by
  rw [stGather_eq]
  simp only [Prog.lift, Prog.bind_op, Prog.bind_ret]
  unfold base gatherPre
  iintro ⟨⟨#HR, #Hlev, ⟨%W, HO⟩⟩, Ht0, Ht1, Ha, ⟨%f, Hs⟩⟩ Hk
  ihave Hrec := (records_at P Y K (c, some (2, k))) $$ HR
  icases Hrec with ⟨#HI0, #Hr0⟩
  ihave Hrec := (records_at P Y K (ahead c k, some (3, k))) $$ HR
  icases Hrec with ⟨#HI1, #Hr1⟩
  unfold outPts
  ihave Ha := (Entails.of_eq (show _ = ((rowsM outM c).view.loc (c : Thread nD τ) ↦[(rowsM outM c).view.set]{shareTok fullShare 15 k} gathered Y : sProp 𝕄) from by
    rw [out_set])) $$ Ha
  ihave Hs := (Entails.of_eq (show _ = ((rowsM outM c).view.loc (ahead c k : Thread nD τ) ↦[(rowsM outM c).view.set]{fullShare} f : sProp 𝕄) from by
    rw [out_set])) $$ Hs
  iapply (Rounds.wp_send_pointsTo 𝒱₀ ER (sched P Y) (c : Thread nD τ) none (κ₁ := K (c, some (2, k))) (κ₂ := K (ahead c k, some (3, k)))
      (c' := (ahead c k : Thread nD τ)) (src := rowsM outM c) (dst := rowsM outM c) (fs := gathered Y) (fd := f)
      (r₁ := 0) (r₂ := 0) (d₁ := 0) (d₂ := 0)
      (by rw [duties_dma]; exact Finset.mem_singleton_self _) (by rw [duties_dma]; exact Finset.mem_singleton_self _)
      () () N rfl (amount_dma P Y c 2 k 0) (amount_dma P Y (ahead c k) 3 k 0) (X + owedFrom (dueAg c) (k.val + 1))
      (O₀ := X + owedFrom (dueAg c) k.val) (by rw [owedFrom_step (dueAg c) k, add_assoc]; rfl)
      (by rw [payload_dma]; show _ ⊢ outPts (shareTok fullShare 15 k) c c (gathered Y); unfold outPts; rw [out_set])
      (by
        rw [payload_dma]; show _ ⊢ outPts fullShare (ahead c k) (behind (ahead c k) k) (gathered Y)
        rw [behind_ahead]; unfold outPts; rw [← out_set]
        exact landed_pts (rowsM outM c).view (ahead c k) rfl))
    $$ [HO Ht0 Ht1 Ha Hs]
  · isplitr; · iexact HI0
    isplitr; · iexact HI1
    isplitl [Ha]; · iexact Ha
    isplitl [Hs]; · iexact Hs
    isplitl [HO]; · iexact HO
    isplitl [Ht0]; · iexact Ht0
    isplitr; · iexact Hr0
    isplitl [Ht1]; · iexact Ht1
    iexact Hr1
  iintro ⟨Hc, HO⟩
  iapply Hk
  isplitr [Hc]
  · isplitr; · iexact HR
    isplitr; · iexact Hlev
    iexists W; iexact HO
  iexact Hc

/-! ## The waits for transfers -/

def gotPre (c : Dev nD) (j : Fin 4) (k : Fin 15) : sProp 𝕄 :=
  iprop(atPos ER (dCell c j k) 0 ∅ 0 ∗ cred (tallyAt (dCell c j k) () N))
def gotPost (c : Dev nD) (j : Fin 4) (k : Fin 15) : sProp 𝕄 :=
  iprop(dmaPay P Y c j k ∗ semVal (dCell c j k) 0)

/-- A wait on a transfer semaphore, from owing `O`: its piece comes back, and the semaphore's use ends with its counter at
    zero. -/
theorem wp_got_step (O : CellTallies nD τ sig Unit) (Q : α → sProp 𝕄) (j : Fin 4) (k : Fin 15)
    (hO : (levAts L lv : sProp 𝕄) ⊢ MayWait (c : Thread nD τ) (.dma (dsem j k)) () O)
    {s s' : Shape} (src : Memref sig .tc .vmem s .f32) (dst : Memref sig .tc .vmem s' .f32) (hs : src.view.WordExact) (hd : dst.view.WordExact)
    (hN : dst.view.dmaCredit = N) (p : KProg F α) :
    iprop(base P Y K c O ∗ gotPre c j k)
      ⊢ iprop(((base P Y K c O ∗ gotPost P Y c j k) -∗ WP c p Q)
          -∗ WP c ((Prog.lift (.waitDma2 (dsem j k) src dst hs hd) : KProg F PUnit) >>= fun _ => p) Q) := by
  simp only [Prog.lift, Prog.bind_op, Prog.bind_ret]
  unfold base gotPre gotPost
  iintro ⟨⟨#HR, #Hlev, ⟨%W, HO⟩⟩, Hat, Hc⟩ Hk
  ihave Hrec := (records_at P Y K (c, some (j, k))) $$ HR
  icases Hrec with ⟨#HI, -⟩
  iapply (Rounds.wp_wait_rest_token 𝒱₀ ER (sched P Y) (c : Thread nD τ) none (κ := K (c, some (j, k))) (sm := .dma (dsem j k)) (k' := N)
      (fun Kt => (wpE_waitDma2_eq 𝒱₀ (c : Thread nD τ) none Set.univ Kt).trans (by rw [hN])) (Set.mem_univ _) () (O := O) (W := W) (R := 0) (m := 0) (T := ∅)
      (by rw [Nat.zero_add, expect_dma])) $$ [Hc HO Hat]
  · isplitr; · iexact HI
    isplitl [Hc]; · iexact Hc
    isplitl [HO]; · iexact HO
    isplitr; · iapply hO; iexact Hlev
    iexact Hat
  iintro ⟨HO, Hat, -, Hpay⟩
  ihave Hpay := (Entails.of_eq (rest_dma P Y c j k)) $$ Hpay
  imod (Rounds.cell_close ER (sched P Y) (Set.mem_univ (K (c, some (j, k)))) (fun h => h) (R := 0 + 1) (duties_later P Y (dCell c j k))) $$ [Hat] with Hz
  · isplitr; · iexact HI
    iexact Hat
  iapply Hk
  isplitl [HO]
  · isplitr; · iexact HR
    isplitr; · iexact Hlev
    iexists _; iexact HO
  isplitl [Hpay] <;> iassumption

end Cert.MoeProof

end
-- ==== Proof.Body.lean ====
/-
# The kernel's body

Device `c`'s body from what it holds at the start to what it leaves: the handshake, the partial sum, the scatter, the own
rows and the gather, each part by the rules of its row.
-/
module

public import proofs.«01_k».proof.Proof.Rows

@[expose] public section

noncomputable section

namespace Cert.MoeProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)

variable {F : FTy → Type} [FloatOps F]

local notation "𝕄" => MT nD τ sig Unit (Elt F) ℕ UU ℕ

/-! ## Values -/

/-- What a device's input windows hold. -/
structure Ins (F : FTy → Type) where
  x : Vec F S256x128 .f32
  rw : Vec F S128x32 .f32
  idx : Vec F S256x1 .i32
  ew : Vec F S2x128x256 .f32
  sw : Vec F S128x256 .f32

/-- A device's partial sum. -/
def partOf (c : Dev nD) (a : Ins F) : FVec F S256x256 .f32 :=
  partVal c a.x a.rw a.idx (ewM.view.readAt (Elt F) rEw0.toLoadRect a.ew) (ewM.view.readAt (Elt F) rEw1.toLoadRect a.ew)

/-- A device's rows of the shared expert's output. -/
def sharedOf (c : Dev nD) (a : Ins F) : FVec F S16x256 .f32 :=
  k0_pay6 (xM.view.readAt (Elt F) (rXc c).toLoadRect a.x) a.sw

variable (v : Dev nD → Ins F)

/-- Every device's partial sum. -/
def sums (c : Dev nD) : FVec F S256x256 .f32 := partOf c (v c)

/-- Every device's finished rows. -/
def done (c : Dev nD) : FVec F S16x256 .f32 :=
  k0_pay7 (sharedOf c (v c)) ((rowsM accM c).view.read (Elt F) (sums v c)) (landedAll (sums v) c)

/-- What a device's input windows hold, held. -/
def insPts (c : Dev nD) (a : Ins F) : sProp 𝕄 :=
  iprop((((c : Thread nD τ).loc cc0_stg0_0) ↦{fullShare} a.x) ∗ (((c : Thread nD τ).loc cc0_stg1_0) ↦{fullShare} a.rw)
    ∗ (((c : Thread nD τ).loc cc0_stg2_0) ↦{fullShare} a.idx) ∗ (((c : Thread nD τ).loc cc0_stg3_0) ↦{fullShare} a.ew)
    ∗ (((c : Thread nD τ).loc cc0_stg4_0) ↦{fullShare} a.sw))

/-! ## Buffers and their pieces -/

theorem acc_all (c : Dev nD) (f : Buf (Elt F) ((c : Thread nD τ).loc cc0_scratch0)) :
    ((((c : Thread nD τ).loc cc0_scratch0) ↦{fullShare} f) : sProp 𝕄) = bigSep Finset.univ fun d => ((c : Thread nD τ).loc cc0_scratch0) ↦[rowSet d]{fullShare} f := by
  refine Ring.pointsTo_blocks (Val := Elt F) (ℓ := (c : Thread nD τ).loc cc0_scratch0) (q := fullShare) rowSet rows_disjoint ?_ f
  exact rows_cover
theorem acc_blocks (c : Dev nD) (f : FVec F S256x256 .f32) :
    ((((c : Thread nD τ).loc cc0_scratch0) ↦{fullShare} f) : sProp 𝕄) = iprop(accPts c c f ∗ bigSep Finset.univ fun k => accPts c (ahead c k) f) :=
  ((acc_all c f).trans (show _ = bigSep Finset.univ fun d => accPts c d f by unfold accPts; rfl)).trans (bigSep_peers c fun d => accPts c d f)
theorem out_all (c : Dev nD) (f : Buf (Elt F) ((c : Thread nD τ).loc cc0_stg5_0)) :
    ((((c : Thread nD τ).loc cc0_stg5_0) ↦{fullShare} f) : sProp 𝕄) = bigSep Finset.univ fun d => ((c : Thread nD τ).loc cc0_stg5_0) ↦[rowSet d]{fullShare} f := by
  refine Ring.pointsTo_blocks (Val := Elt F) (ℓ := (c : Thread nD τ).loc cc0_stg5_0) (q := fullShare) rowSet rows_disjoint ?_ f
  exact rows_cover
theorem out_blocks (c : Dev nD) (f : FVec F S256x256 .f32) :
    ((((c : Thread nD τ).loc cc0_stg5_0) ↦{fullShare} f) : sProp 𝕄)
      = iprop(outPts fullShare c c f ∗ bigSep Finset.univ fun k => outPts fullShare c (ahead c k) f) :=
  ((out_all c f).trans (show _ = bigSep Finset.univ fun d => outPts fullShare c d f by unfold outPts; rfl)).trans
    (bigSep_peers c fun d => outPts fullShare c d f)
theorem recv_all (c : Dev nD) (f : Buf (Elt F) ((c : Thread nD τ).loc cc0_scratch1)) :
    ((((c : Thread nD τ).loc cc0_scratch1) ↦{fullShare} f) : sProp 𝕄) = bigSep Finset.univ fun d => ((c : Thread nD τ).loc cc0_scratch1) ↦[slotSet d]{fullShare} f := by
  refine Ring.pointsTo_blocks (Val := Elt F) (ℓ := (c : Thread nD τ).loc cc0_scratch1) (q := fullShare) slotSet slot_disjoint ?_ f
  exact slot_cover
theorem recv_blocks (c : Dev nD) (f : FVec F S15x16x256 .f32) :
    ((((c : Thread nD τ).loc cc0_scratch1) ↦{fullShare} f) : sProp 𝕄) = bigSep Finset.univ fun k => slotPts c k f :=
  (recv_all c f).trans (by unfold slotPts; rfl)

/-- The peers behind are the peers ahead, counted the other way. -/
theorem bigSep_behind {M : Type} [URA M] (c : Dev nD) (Φ : Dev nD → sProp M) :
    (bigSep Finset.univ fun k => Φ (behind c k)) = bigSep Finset.univ fun k => Φ (ahead c k) := by
  rw [bigSep_univ_equiv Fin.revPerm (fun k => Φ (behind c k))]
  exact bigSep_congr fun k _ => congrArg Φ (behind_rev c k)

/-! ## The own rows -/

variable {c : Dev nD}

theorem wp_load_own {hl : accM.view.LoadsAt (rOwn c).toLoadRect} {p : ((rOwn c).shape.Idx → Elt F .f32) → KProg F PUnit} {Q : PUnit → sProp 𝕄}
    (f : FVec F S256x256 .f32) :
    accPts c c f ⊢ iprop((accPts c c f -∗ WP c (p ((rowsM accM c).view.read (Elt F) f)) Q)
      -∗ WP c (.op (.load accM (rOwn c).toLoadRect hl) p) Q) := by
  have h : ∀ (off : Fin 2 → Nat) (hi) (_ : off = ![16 * c.val, 0]) (hl : accM.view.LoadsAt (Rect.unit (s := S256x256) off S16x256.size hi).toLoadRect)
      (p : (S16x256.Idx → Elt F .f32) → KProg F PUnit),
      accPts c c f ⊢ iprop((accPts c c f -∗ WP c (p ((rowsM accM c).view.read (Elt F) f)) Q)
        -∗ WP c (.op (.load accM (Rect.unit (s := S256x256) off S16x256.size hi).toLoadRect hl) p) Q) := by
    intro off hi e hl p; subst e; unfold accPts
    exact wp_load_rect 𝒱₀ (c : Thread nD τ) none Set.univ (m := accM) (r := Rect.unit (s := S256x256) ![16 * c.val, 0] S16x256.size hi)
      (by rw [show (accM.access (Rect.unit (s := S256x256) ![16 * c.val, 0] S16x256.size hi)).set = rowSet c from View.set_slice_whole cc0_scratch0 _])
  exact h _ _ (k0_off3_eq c) hl p

theorem wp_load_out {hl : outM.view.LoadsAt (rOwn c).toLoadRect} {p : ((rOwn c).shape.Idx → Elt F .f32) → KProg F PUnit} {Q : PUnit → sProp 𝕄}
    (f : FVec F S256x256 .f32) :
    outPts fullShare c c f ⊢ iprop((∀ w, outPts fullShare c c f -∗ WP c (p w) Q)
      -∗ WP c (.op (.load outM (rOwn c).toLoadRect hl) p) Q) := by
  have h : ∀ (off : Fin 2 → Nat) (hi) (_ : off = ![16 * c.val, 0]) (hl : outM.view.LoadsAt (Rect.unit (s := S256x256) off S16x256.size hi).toLoadRect)
      (p : (S16x256.Idx → Elt F .f32) → KProg F PUnit),
      outPts fullShare c c f ⊢ iprop((∀ w, outPts fullShare c c f -∗ WP c (p w) Q)
        -∗ WP c (.op (.load outM (Rect.unit (s := S256x256) off S16x256.size hi).toLoadRect hl) p) Q) := by
    intro off hi e hl p; subst e; unfold outPts
    iintro H Hk
    iapply (wp_load_rect 𝒱₀ (c : Thread nD τ) none Set.univ (m := outM) (r := Rect.unit (s := S256x256) ![16 * c.val, 0] S16x256.size hi)
      (by rw [show (outM.access (Rect.unit (s := S256x256) ![16 * c.val, 0] S16x256.size hi)).set = rowSet c from View.set_slice_whole cc0_stg5_0 _])) $$ H
    iapply Hk
  exact h _ _ (k0_off3_eq c) hl p

theorem wp_store_own (Y : Dev nD → FVec F S16x256 .f32) {hx : (outM.access (rOwn c)).Stores Finset.univ}
    {hm : (Finset.univ : Finset (rOwn c).shape.Idx) = Finset.univ ∨ ∀ a, (rOwn c).stride a = 1} {p : PUnit → KProg F PUnit} {Q : PUnit → sProp 𝕄}
    (f : FVec F S256x256 .f32) :
    outPts fullShare c c f ⊢ iprop((outPts fullShare c c (gathered Y) -∗ WP c (p ⟨⟩) Q)
      -∗ WP c (.op (.store outM (rOwn c) (Y c) Finset.univ hx hm) p) Q) := by
  have h : ∀ (off : Fin 2 → Nat) (hi) (_ : off = ![16 * c.val, 0]) (hx : (outM.access (Rect.unit (s := S256x256) off S16x256.size hi)).Stores Finset.univ) (hm),
      outPts fullShare c c f ⊢ iprop((outPts fullShare c c (gathered Y) -∗ WP c (p ⟨⟩) Q)
        -∗ WP c (.op (.store outM (Rect.unit (s := S256x256) off S16x256.size hi) (Y c) Finset.univ hx hm) p) Q) := by
    intro off hi e hx hm; subst e
    have hset := out_set c
    iintro H Hk
    ihave H := (Entails.of_eq (show outPts fullShare c c f = ((rowsM outM c).view.loc (c : Thread nD τ) ↦[(rowsM outM c).view.set]{fullShare} f : sProp 𝕄) from by
      unfold outPts; rw [out_set])) $$ H
    iapply (wp_store 𝒱₀ (c : Thread nD τ) none Set.univ (m := outM) (r := Rect.unit (s := S256x256) ![16 * c.val, 0] S16x256.size hi) (Mk := Finset.univ)
      (S := (rowsM outM c).view.set) (Finset.Subset.refl _)) $$ H
    iintro H
    iapply Hk
    ihave H := (landed_pts (rowsM outM c).view c (out_gathered Y c)) $$ H
    unfold outPts; rw [← out_set]; iexact H
  exact h _ _ (k0_off3_eq c) hx hm

/-! ## The gather -/

variable (K : Dev nD × Option (Fin 4 × Fin 15) → ℕ)

/-- The rights of a row of waits: positions and credits. -/
def atRow (c : Dev nD) (j : Fin 4) : sProp 𝕄 := bigSep Finset.univ fun k => atPos ER (dCell c j k) 0 ∅ 0
def credRow (c : Dev nD) (j : Fin 4) : sProp 𝕄 := bigSep Finset.univ fun k => cred (tallyAt (dCell c j k) () N)
/-- A row of semaphores at zero. -/
def zeroRow (c : Dev nD) (j : Fin 4) : sProp 𝕄 := bigSep Finset.univ fun k => semVal (dCell c j k) 0
/-- A row of own duties, and one of duties at the peers. -/
def tokRow (c : Dev nD) (j : Fin 4) : sProp 𝕄 := bigSep Finset.univ fun k => dutyTok ER (dCell c j k) 0 0
def tokPeers (c : Dev nD) (j : Fin 4) : sProp 𝕄 := bigSep Finset.univ fun k => dutyTok ER (dCell (ahead c k) j k) 0 0
def tokBars (c : Dev nD) : sProp 𝕄 := bigSep Finset.univ fun k => dutyTok ER (barCell (ahead c k)) 0 k

/-- A row of waits. -/
theorem wp_got (P : Dev nD → FVec F S256x256 .f32) (Y : Dev nD → FVec F S16x256 .f32) (O : CellTallies nD τ sig Unit) (j : Fin 4)
    (hO : ∀ k, (levAts L lv : sProp 𝕄) ⊢ MayWait (c : Thread nD τ) (.dma (dsem j k)) () O)
    {s s' : Shape} (src : Fin 15 → Memref sig .tc .vmem s .f32) (dst : Fin 15 → Memref sig .tc .vmem s' .f32)
    (hs : ∀ k, (src k).view.WordExact) (hd : ∀ k, (dst k).view.WordExact)
    (hN : ∀ k, (dst k).view.dmaCredit = N) {α : Type} (Q : α → sProp 𝕄) (rest : KProg F α) :
    iprop(base P Y K c O ∗ atRow c j ∗ credRow c j)
      ⊢ iprop(((base P Y K c O ∗ (bigSep Finset.univ fun k => dmaPay P Y c j k) ∗ zeroRow c j) -∗ WP c rest Q)
          -∗ WP c (steps (fun k => Prog.lift (.waitDma2 (dsem j k) (src k) (dst k) (hs k) (hd k))) rest ks15) Q) := by
  have h := wp_steps (c := c) (fun k => Prog.lift (.waitDma2 (dsem j k) (src k) (dst k) (hs k) (hd k))) rest Q (fun _ => base P Y K c O)
    (gotPre c j) (gotPost P Y c j) (fun k p => wp_got_step P Y K O Q j k (hO k) (src k) (dst k) (hs k) (hd k) (hN k) p)
  unfold gotPre gotPost at h
  rw [bigSep_sep', bigSep_sep'] at h
  unfold atRow credRow zeroRow
  exact h

/-- From the own rows on. -/
theorem wp_gather (sh : FVec F S16x256 .f32) (hsh : sh = sharedOf c (v c)) (Q : PUnit → sProp 𝕄) :
    iprop(base (sums v) (done v) K c (0 + owedFrom (dueAg c) 0) ∗ accPts c c (sums v c)
        ∗ (bigSep Finset.univ fun k => slotPts c k (landedAll (sums v) c))
        ∗ (∃ f, outPts fullShare c c f) ∗ (bigSep Finset.univ fun k => iprop(∃ f, outPts fullShare (ahead c k) c f))
        ∗ tokRow c 2 ∗ tokPeers c 3 ∗ atRow c 0 ∗ atRow c 2 ∗ atRow c 3 ∗ credRow c 0 ∗ credRow c 3)
      ⊢ iprop(((base (sums v) (done v) K c 0 ∗ (((c : Thread nD τ).loc cc0_scratch0) ↦{fullShare} sums v c)
            ∗ (((c : Thread nD τ).loc cc0_scratch1) ↦{fullShare} landedAll (sums v) c)
            ∗ (((c : Thread nD τ).loc cc0_stg5_0) ↦{fullShare} gathered (done v)) ∗ zeroRow c 0 ∗ zeroRow c 2 ∗ zeroRow c 3) -∗ Q ⟨⟩)
          -∗ WP c (bodyGather c sh) Q) := by
  iintro ⟨HB, Hacc, Hrecv, ⟨%f, Hout⟩, Hpeers, Ht2, Ht3, Ha0, Ha2, Ha3, Hc0, Hc3⟩ Hk
  ihave Hrecv := (Entails.of_eq (recv_blocks c (landedAll (sums v) c)).symm) $$ Hrecv
  unfold bodyGather
  iapply (wp_load_own (sums v c)) $$ Hacc; iintro Hacc
  iapply (wp_load 𝒱₀ (c : Thread nD τ) none Set.univ (m := recvM) (Finset.subset_univ _)) $$ Hrecv; iintro Hrecv
  iapply (wp_load_out f) $$ Hout; iintro %w Hout
  have hval : k0_pay7 sh ((rowsM accM c).view.read (Elt F) (sums v c)) (recvM.view.readAt (Elt F) rRecv.toLoadRect (landedAll (sums v) c)) = done v c := by
    subst hsh
    unfold done
    exact congrArg _ (Memref.readAt_unit_zero (Elt F) cc0_scratch1 (funext fun a => by fin_cases a <;> rfl) _ _)
  rw [hval]
  iapply (wp_store_own (done v) f) $$ Hout; iintro Hout
  unfold outPts
  ihave Hout := (pointsTo_toks_split fullShare 15) $$ Hout
  icases Hout with ⟨Hdrop, Htoks⟩
  iapply (wp_steps (stGather c) _ Q (fun n => base (sums v) (done v) K c (0 + owedFrom (dueAg c) n)) (gatherPre (done v) c)
    (fun k => cred (tallyAt (dCell c 2 k) () N)) (fun k p => wp_gather_step (sums v) (done v) K 0 Q k p)) $$ [HB Htoks Hpeers Ht2 Ht3]
  · isplitl [HB]; · iexact HB
    unfold gatherPre; simp only [bigSep_sep']
    unfold tokRow tokPeers outPts
    isplitl [Ht2]; · iexact Ht2
    isplitl [Ht3]; · iexact Ht3
    isplitl [Htoks] <;> iassumption
  rw [owedFrom_end, add_zero]
  iintro ⟨HB, Hc2⟩
  have hz : ∀ (j : Fin 4) (k : Fin 15), (levAts L lv : sProp 𝕄) ⊢ MayWait (c : Thread nD τ) (.dma (dsem j k)) () 0 := fun j k => by
    rw [MayWait_zero]; iintro -; iempintro
  unfold stScatterSent stGatherSent stGatherGot
  iapply (wp_got K (sums v) (done v) 0 0 (hz 0) (fun k => slotM k) (fun k => rowsAt accM (k0_off1 c (dist k)) (k0_off1_inb c k)) _ _ (fun _ => rfl) Q) $$ [HB Ha0 Hc0]
  · isplitl [HB]; · iexact HB
    isplitl [Ha0] <;> iassumption
  iintro ⟨HB, Hd0, Hz0⟩
  iapply (wp_got K (sums v) (done v) 0 2 (hz 2) (fun k => rowsAt outM (k0_off4 c) (k0_off4_inb c)) (fun k => rowsAt outM (k0_off4 c) (k0_off4_inb c)) _ _ (fun _ => rfl) Q) $$ [HB Ha2 Hc2]
  · isplitl [HB]; · iexact HB
    unfold credRow
    isplitl [Ha2] <;> iassumption
  iintro ⟨HB, Hd2, Hz2⟩
  iapply (wp_got K (sums v) (done v) 0 3 (hz 3) (fun k => rowsAt outM (k0_off5 c (dist k)) (k0_off5_inb c k)) (fun k => rowsAt outM (k0_off5 c (dist k)) (k0_off5_inb c k)) _ _ (fun _ => rfl) Q) $$ [HB Ha3 Hc3]
  · isplitl [HB]; · iexact HB
    isplitl [Ha3] <;> iassumption
  iintro ⟨HB, Hd3, Hz3⟩
  unfold WP; rw [wp_ret]; imodintro
  iapply Hk
  isplitl [HB]; · iexact HB
  isplitl [Hacc Hd0]
  · rw [acc_blocks]
    isplitl [Hacc]; · iexact Hacc
    iexact Hd0
  isplitl [Hrecv]; · iexact Hrecv
  isplitl [Hdrop Hd2 Hd3]
  · rw [out_blocks]
    isplitl [Hdrop Hd2]
    · unfold outPts
      iapply (pointsTo_toks_join fullShare 15)
      isplitl [Hdrop]; · iexact Hdrop
      iexact Hd2
    · rw [← bigSep_behind c fun d => outPts fullShare c d (gathered (done v))]
      iexact Hd3
  isplitl [Hz0]; · iexact Hz0
  isplitl [Hz2] <;> iassumption

/-! ## The scatter -/

theorem wp_store_full {f g : FVec F S256x256 .f32} {hx : (accM.access rFull).Stores Finset.univ}
    {hm : (Finset.univ : Finset rFull.shape.Idx) = Finset.univ ∨ ∀ a, rFull.stride a = 1} {p : PUnit → KProg F PUnit} {Q : PUnit → sProp 𝕄} :
    ((((c : Thread nD τ).loc cc0_scratch0) ↦{fullShare} f) : sProp 𝕄) ⊢ iprop(((((c : Thread nD τ).loc cc0_scratch0) ↦{fullShare} g) -∗ WP c (p ⟨⟩) Q)
      -∗ WP c (.op (.store accM rFull g Finset.univ hx hm) p) Q) := by
  iintro H Hk
  iapply (wp_store 𝒱₀ (c : Thread nD τ) none Set.univ (m := accM) (r := rFull) (Mk := Finset.univ) (Finset.subset_univ _)) $$ H
  iintro H
  iapply Hk
  ihave H := (Entails.of_eq (congrArg (fun g => ((((c : Thread nD τ).loc cc0_scratch0) ↦{fullShare} g) : sProp 𝕄))
    (Memref.write_access_unit_zero_univ (Elt F) cc0_scratch0 (funext fun a => by fin_cases a <;> rfl) inb_S256x256_S256x256_0_0 f g))) $$ H
  iexact H

/-- From the partial sum on. -/
theorem wp_scatter (Q : PUnit → sProp 𝕄) :
    iprop(base (sums v) (done v) K c (owedFrom (dueAg c) 0 + owedFrom (dueRs c) 0) ∗ insPts c (v c) ∗ (∃ f, ((c : Thread nD τ).loc cc0_scratch0) ↦{fullShare} f)
        ∗ (bigSep Finset.univ fun k => iprop(∃ f, slotPts (ahead c k) k f))
        ∗ (∃ f, outPts fullShare c c f) ∗ (bigSep Finset.univ fun k => iprop(∃ f, outPts fullShare (ahead c k) c f))
        ∗ tokRow c 0 ∗ tokPeers c 1 ∗ tokRow c 2 ∗ tokPeers c 3 ∗ atRow c 0 ∗ atRow c 1 ∗ atRow c 2 ∗ atRow c 3 ∗ credRow c 1 ∗ credRow c 3)
      ⊢ iprop(((base (sums v) (done v) K c 0 ∗ insPts c (v c) ∗ (((c : Thread nD τ).loc cc0_scratch0) ↦{fullShare} sums v c)
            ∗ (((c : Thread nD τ).loc cc0_scratch1) ↦{fullShare} landedAll (sums v) c)
            ∗ (((c : Thread nD τ).loc cc0_stg5_0) ↦{fullShare} gathered (done v)) ∗ zeroRow c 0 ∗ zeroRow c 1 ∗ zeroRow c 2 ∗ zeroRow c 3) -∗ Q ⟨⟩)
          -∗ WP c (bodyScatter c) Q) := by
  unfold insPts
  iintro ⟨HB, ⟨Hx, Hrw, Hidx, Hew, Hsw⟩, ⟨%f, Hacc⟩, Hslots, Hout, Hpeers, Ht0, Ht1, Ht2, Ht3, Ha0, Ha1, Ha2, Ha3, Hc1, Hc3⟩ Hk
  unfold bodyScatter
  iapply (wp_load 𝒱₀ (c : Thread nD τ) none Set.univ (m := xM) (Finset.subset_univ _)) $$ Hx; iintro Hx
  iapply (wp_load 𝒱₀ (c : Thread nD τ) none Set.univ (m := rwM) (Finset.subset_univ _)) $$ Hrw; iintro Hrw
  iapply (wp_load 𝒱₀ (c : Thread nD τ) none Set.univ (m := idxM) (Finset.subset_univ _)) $$ Hidx; iintro Hidx
  iapply (wp_load 𝒱₀ (c : Thread nD τ) none Set.univ (m := ewM) (Finset.subset_univ _)) $$ Hew; iintro Hew
  iapply (wp_load 𝒱₀ (c : Thread nD τ) none Set.univ (m := ewM) (Finset.subset_univ _)) $$ Hew; iintro Hew
  iapply (wp_load 𝒱₀ (c : Thread nD τ) none Set.univ (m := accM) (Finset.subset_univ _)) $$ Hacc; iintro Hacc
  have e1 : xM.view.readAt (Elt F) rX.toLoadRect (v c).x = (v c).x :=
    Memref.readAt_unit_zero (Elt F) cc0_stg0_0 (funext fun a => by fin_cases a <;> rfl) _ _
  have e2 : rwM.view.readAt (Elt F) rRw.toLoadRect (v c).rw = (v c).rw :=
    Memref.readAt_unit_zero (Elt F) cc0_stg1_0 (funext fun a => by fin_cases a <;> rfl) _ _
  have e3 : idxM.view.readAt (Elt F) rIdx.toLoadRect (v c).idx = (v c).idx :=
    Memref.readAt_unit_zero (Elt F) cc0_stg2_0 (funext fun a => by fin_cases a <;> rfl) _ _
  rw [e1, e2, e3]
  iapply (wp_store_full (g := sums v c)) $$ Hacc; iintro Hacc
  ihave Hacc := (Entails.of_eq (acc_blocks c (sums v c))) $$ Hacc
  icases Hacc with ⟨Hacc, Haccs⟩
  iapply (wp_steps (stScatter c) _ Q (fun n => base (sums v) (done v) K c (owedFrom (dueAg c) 0 + owedFrom (dueRs c) n)) (scatterPre (sums v) c)
    (fun k => cred (tallyAt (dCell c 0 k) () N)) (fun k p => wp_scatter_step (sums v) (done v) K (owedFrom (dueAg c) 0) Q k p)) $$ [HB Haccs Hslots Ht0 Ht1]
  · isplitl [HB]; · iexact HB
    unfold scatterPre; simp only [bigSep_sep']
    unfold tokRow tokPeers
    isplitl [Ht0]; · iexact Ht0
    isplitl [Ht1]; · iexact Ht1
    isplitl [Haccs] <;> iassumption
  rw [owedFrom_end, add_zero]
  iintro ⟨HB, Hc0⟩
  iapply (wp_load 𝒱₀ (c : Thread nD τ) none Set.univ (m := xM) (Finset.subset_univ _)) $$ Hx; iintro Hx
  iapply (wp_load 𝒱₀ (c : Thread nD τ) none Set.univ (m := swM) (Finset.subset_univ _)) $$ Hsw; iintro Hsw
  have e4 : swM.view.readAt (Elt F) rSw.toLoadRect (v c).sw = (v c).sw :=
    Memref.readAt_unit_zero (Elt F) cc0_stg4_0 (funext fun a => by fin_cases a <;> rfl) _ _
  rw [e4]
  unfold stScatterGot
  iapply (wp_got K (sums v) (done v) (owedFrom (dueAg c) 0) 1 (mayWait_got c) (fun k => rowsAt accM ![0, 0] inb_S256x256_S16x256_0_0) (fun k => slotM k) _ _ (fun _ => rfl) Q) $$ [HB Ha1 Hc1]
  · isplitl [HB]; · iexact HB
    isplitl [Ha1] <;> iassumption
  iintro ⟨HB, Hd1, Hz1⟩
  iapply (wp_gather v K _ rfl Q) $$ [HB Hacc Hd1 Hout Hpeers Ht2 Ht3 Ha0 Ha2 Ha3 Hc0 Hc3]
  · rw [zero_add]
    isplitl [HB]; · iexact HB
    isplitl [Hacc]; · iexact Hacc
    isplitl [Hd1]; · iexact Hd1
    isplitl [Hout]; · iexact Hout
    isplitl [Hpeers]; · iexact Hpeers
    isplitl [Ht2]; · iexact Ht2
    isplitl [Ht3]; · iexact Ht3
    isplitl [Ha0]; · iexact Ha0
    isplitl [Ha2]; · iexact Ha2
    isplitl [Ha3]; · iexact Ha3
    isplitl [Hc0] <;> first | iassumption | (unfold credRow; iassumption)
  iintro ⟨HB, Hacc, Hrecv, Hout, Hz0, Hz2, Hz3⟩
  iapply Hk
  isplitl [HB]; · iexact HB
  isplitl [Hx Hrw Hidx Hew Hsw]
  · isplitl [Hx]; · iexact Hx
    isplitl [Hrw]; · iexact Hrw
    isplitl [Hidx]; · iexact Hidx
    isplitl [Hew] <;> iassumption
  isplitl [Hacc]; · iexact Hacc
  isplitl [Hrecv]; · iexact Hrecv
  isplitl [Hout]; · iexact Hout
  isplitl [Hz0]; · iexact Hz0
  isplitl [Hz1]; · iexact Hz1
  isplitl [Hz2] <;> iassumption

/-! ## The whole body -/

/-- Device `c`'s share of the protocol: positions, duties and credits. -/
def rights (c : Dev nD) : sProp 𝕄 :=
  iprop((atPos ER (barCell c) 0 ∅ 0 ∗ atRow c 0 ∗ atRow c 1 ∗ atRow c 2 ∗ atRow c 3)
    ∗ (tokBars c ∗ tokRow c 0 ∗ tokPeers c 1 ∗ tokRow c 2 ∗ tokPeers c 3))
def credits (c : Dev nD) : sProp 𝕄 :=
  iprop(cred (tallyAt (barCell c) () 15) ∗ credRow c 1 ∗ credRow c 3)
/-- Every own semaphore at zero. -/
def zeros (c : Dev nD) : sProp 𝕄 :=
  iprop(zeroRow c 0 ∗ zeroRow c 1 ∗ zeroRow c 2 ∗ zeroRow c 3)

theorem some_slots (c : Dev nD) (f : FVec F S15x16x256 .f32) :
    (bigSep Finset.univ fun k => slotPts c (Fin.revPerm k) f) ⊢ (bigSep Finset.univ fun k : Fin 15 => iprop(∃ f, slotPts c k.rev f) : sProp 𝕄) :=
  bigSep_mono fun k _ => show slotPts c k.rev f ⊢ (iprop(∃ f, slotPts c k.rev f) : sProp 𝕄) by iintro H; iexists f; iexact H
theorem some_outs (c : Dev nD) (f : FVec F S256x256 .f32) :
    (bigSep Finset.univ fun k => outPts fullShare c (ahead c k) f)
      ⊢ (bigSep Finset.univ fun k : Fin 15 => iprop(∃ f, outPts fullShare c (ahead c k) f) : sProp 𝕄) :=
  bigSep_mono fun k _ => show outPts fullShare c (ahead c k) f ⊢ (iprop(∃ f, outPts fullShare c (ahead c k) f) : sProp 𝕄) by
    iintro H; iexists f; iexact H

theorem wp_body (Q : PUnit → sProp 𝕄) :
    iprop(base (sums v) (done v) K c (O₀ c) ∗ rights c ∗ credits c ∗ insPts c (v c) ∗ (∃ f, ((c : Thread nD τ).loc cc0_scratch0) ↦{fullShare} f)
        ∗ (∃ f, ((c : Thread nD τ).loc cc0_scratch1) ↦{fullShare} f) ∗ (∃ f, ((c : Thread nD τ).loc cc0_stg5_0) ↦{fullShare} f))
      ⊢ iprop(((base (sums v) (done v) K c 0 ∗ insPts c (v c) ∗ (((c : Thread nD τ).loc cc0_scratch0) ↦{fullShare} sums v c)
            ∗ (((c : Thread nD τ).loc cc0_scratch1) ↦{fullShare} landedAll (sums v) c)
            ∗ (((c : Thread nD τ).loc cc0_stg5_0) ↦{fullShare} gathered (done v)) ∗ zeros c ∗ semVal (barCell c) 0) -∗ Q ⟨⟩)
          -∗ WP c (bodyAt c) Q) := by
  unfold rights credits
  iintro ⟨HB, ⟨⟨HaB, Ha0, Ha1, Ha2, Ha3⟩, ⟨HtB, Ht0, Ht1, Ht2, Ht3⟩⟩, ⟨HcB, Hc1, Hc3⟩, Hins, Hacc, ⟨%fr, Hrecv⟩, ⟨%fo, Hout⟩⟩ Hk
  ihave Hout := (Entails.of_eq (out_blocks c fo)) $$ Hout
  icases Hout with ⟨Hout, Houts⟩
  ihave Hrecv := (Entails.of_eq (recv_blocks c fr)) $$ Hrecv
  ihave Hrecv := (Entails.of_eq (bigSep_univ_equiv Fin.revPerm fun k => slotPts c k fr)) $$ Hrecv
  unfold bodyAt O₀
  iapply (wp_steps (stSignal c) _ Q (fun n => base (sums v) (done v) K c (owedFrom (dueAg c) 0 + owedFrom (dueRs c) 0 + owedFrom (dueBar c) n)) (sigPre c)
    (fun _ => iprop(emp)) (fun k p => wp_signal_step (sums v) (done v) K (owedFrom (dueAg c) 0 + owedFrom (dueRs c) 0) Q k p)) $$ [HB Hrecv Houts HtB]
  · isplitl [HB]; · iexact HB
    unfold sigPre; simp only [bigSep_sep']
    unfold tokBars
    isplitl [HtB]; · iexact HtB
    isplitl [Hrecv]
    · iapply (some_slots c fr) $$ Hrecv
    · iapply (some_outs c fo) $$ Houts
  rw [owedFrom_end, add_zero]
  iintro ⟨HB, -⟩
  unfold base
  icases HB with ⟨#HR, #Hlev, ⟨%W, HO⟩⟩
  ihave Hrec := (records_at (sums v) (done v) K (c, none)) $$ HR
  icases Hrec with ⟨#HI, -⟩
  iapply (Rounds.wp_wait_rest_token 𝒱₀ ER (sched (sums v) (done v)) (c : Thread nD τ) none (κ := K (c, none))
      (wpE_semWait_eq 𝒱₀ (c : Thread nD τ) none Set.univ) (Set.mem_univ _) () (O := owedFrom (dueAg c) 0 + owedFrom (dueRs c) 0) (W := W) (R := 0) (m := 0) (T := ∅)
      (by rw [expect_bar])) $$ [HcB HO HaB]
  · isplitr; · iexact HI
    isplitl [HcB]; · iexact HcB
    isplitl [HO]; · iexact HO
    isplitr; · iapply (mayWait_bar c); iexact Hlev
    iexact HaB
  iintro ⟨HO, HaB, -, Hpay⟩
  ihave Hpay := (Entails.of_eq (rest_bar (sums v) (done v) c)) $$ Hpay
  imod (Rounds.cell_close ER (sched (sums v) (done v)) (Set.mem_univ (K (c, none))) (fun h => h) (R := 0 + 1) (duties_later (sums v) (done v) (barCell c))) $$ [HaB] with HzB
  · isplitr; · iexact HI
    iexact HaB
  ihave Hpay := (Entails.of_eq (bigSep_univ_equiv Fin.revPerm fun k => barPay c k)) $$ Hpay
  ihave Hpay := (Entails.of_eq (show (bigSep Finset.univ fun k => barPay c (Fin.revPerm k))
      = iprop((bigSep Finset.univ fun k => iprop(∃ f, slotPts (ahead c k) k f)) ∗ bigSep Finset.univ fun k => iprop(∃ f, outPts fullShare (ahead c k) c f)) from by
    rw [← bigSep_sep']
    refine bigSep_congr fun k _ => ?_
    rw [show Fin.revPerm k = k.rev from rfl]
    unfold barPay; rw [behind_rev, Fin.rev_rev])) $$ Hpay
  icases Hpay with ⟨Hslots, Hpeers⟩
  iapply (wp_scatter v K Q) $$ [HO Hins Hacc Hslots Hout Hpeers Ht0 Ht1 Ht2 Ht3 Ha0 Ha1 Ha2 Ha3 Hc1 Hc3]
  · unfold base
    isplitl [HO]
    · isplitr; · iexact HR
      isplitr; · iexact Hlev
      iexists _; iexact HO
    isplitl [Hins]; · iexact Hins
    isplitl [Hacc]; · iexact Hacc
    isplitl [Hslots]; · iexact Hslots
    isplitl [Hout]; · iexists fo; iexact Hout
    isplitl [Hpeers]; · iexact Hpeers
    isplitl [Ht0]; · iexact Ht0
    isplitl [Ht1]; · iexact Ht1
    isplitl [Ht2]; · iexact Ht2
    isplitl [Ht3]; · iexact Ht3
    isplitl [Ha0]; · iexact Ha0
    isplitl [Ha1]; · iexact Ha1
    isplitl [Ha2]; · iexact Ha2
    isplitl [Ha3]; · iexact Ha3
    isplitl [Hc1] <;> iassumption
  iintro ⟨HB, Hins, Hacc, Hrecv, Hout, Hz0, Hz1, Hz2, Hz3⟩
  iapply Hk
  unfold base zeros
  isplitl [HB]; · iexact HB
  isplitl [Hins]; · iexact Hins
  isplitl [Hacc]; · iexact Hacc
  isplitl [Hrecv]; · iexact Hrecv
  isplitl [Hout]; · iexact Hout
  isplitr [HzB]
  · isplitl [Hz0]; · iexact Hz0
    isplitl [Hz1]; · iexact Hz1
    isplitl [Hz2] <;> iassumption
  iexact HzB

end Cert.MoeProof

end
-- ==== Proof.Launch.lean ====
/-
# The launch

The rights, duties and credits of the protocol dealt to the sixteen devices, the kernel's pipeline around the body, and the
run of the whole program: for any float values, from any memory, every execution ends with each device's result at the
gathered rows, the inputs as they were and every semaphore at zero.
-/
module

public import proofs.«01_k».proof.Proof.Body
public import proofs.«01_k».proof.Proof.Gen.KernelIdeal.Points
public import Idealize.ShloMosaic.Lib.Pipeline.CollectiveSegs

@[expose] public section

noncomputable section

namespace Cert.MoeProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.Rounds

variable {F : FTy → Type} [FloatOps F]

local notation "𝕄" => MT nD τ sig Unit (Elt F) ℕ UU ℕ

/-! ## Dealing -/

section Deal
variable {M : Type} [URA M]

theorem bigSep_fin4 (Φ : Fin 4 → sProp M) : bigSep Finset.univ Φ = iprop(Φ 0 ∗ Φ 1 ∗ Φ 2 ∗ Φ 3) :=
  bigSep_univ_eq_bigSepL [0, 1, 2, 3] (by decide) (by decide) Φ

theorem bigSep_opt {α : Type} [Fintype α] (Φ : Option α → sProp M) : bigSep Finset.univ Φ = iprop(Φ none ∗ bigSep Finset.univ fun a => Φ (some a)) := by
  classical
  rw [show (Finset.univ : Finset (Option α)) = insert none (Finset.univ.map Function.Embedding.some) from by
    ext a; cases a <;> simp, bigSep_insert (by simp), bigSep_map]
  rfl

/-- What is held for every device and distance is held for every device at the peers ahead of it. -/
theorem around (Φ : Dev nD → Fin 15 → sProp M) :
    (bigSep Finset.univ fun c => bigSep Finset.univ fun k => Φ c k) = bigSep Finset.univ fun c => bigSep Finset.univ fun k => Φ (ahead c k) k := by
  rw [BI.bigSep_univ_comm, BI.bigSep_univ_comm fun c k => Φ (ahead c k) k]
  exact bigSep_congr fun k _ => bigSep_univ_equiv (shift k) fun c => Φ c k

theorem bigSep_beside {I : Type} [DecidableEq I] {S : Finset I} {R : sProp M} [BI.Persistent R] {Φ Ψ : I → sProp M}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

end Deal

/-! ## What the launch mints -/

abbrev osem (jk : Fin 4 × Fin 15) : SemLoc sig := .dma (dsem jk.1 jk.2)

theorem osem_scoped : ∀ jk, (osem jk).isScoped .tc = true := by decide +kernel
theorem osem_apart : ∀ jk w s, osem jk ≠ .dma ((cfg0.spec w).sem s) := by decide +kernel
theorem ownSemFacts : Pipeline.OwnSemFacts cfg0.spec osem :=
  ⟨osem_scoped, fun _ _ h => dsem_inj (SemLoc.dma.inj h), osem_apart⟩

def allCells : Finset (GSem nD τ sig) := Finset.univ.map ⟨kcell, kcell_injective⟩

/-- The duties as minted: fifteen on a barrier, one on each transfer semaphore. -/
abbrev tokOf (cx : Dev nD × Option (Fin 4) × Fin 15) : GSem nD τ sig × ℕ × Fin 15 :=
  match cx.2.1 with | none => (barCell cx.1, 0, cx.2.2) | some j => (dCell cx.1 j cx.2.2, 0, 0)
theorem tokOf_injective : Function.Injective tokOf := by
  rintro ⟨c, o, k⟩ ⟨c', o', k'⟩ h
  have h1 : c = c' := by
    cases o <;> cases o' <;> exact congrArg (fun g : GSem nD τ sig × ℕ × Fin 15 => g.1.1.1) h
  subst h1
  have h2 := congrArg (fun g : GSem nD τ sig × ℕ × Fin 15 => g.1.2) h
  have h3 := congrArg (fun g : GSem nD τ sig × ℕ × Fin 15 => g.2.2) h
  cases o with
  | none => cases o' with
    | none => rw [show k = k' from h3]
    | some b => cases h2
  | some a => cases o' with
    | none => cases h2
    | some b =>
      have e := dsem_inj (SemLoc.dma.inj h2)
      rw [show a = b from congrArg Prod.fst e, show k = k' from congrArg Prod.snd e]
def allToks : Finset (GSem nD τ sig × ℕ × Fin 15) := Finset.univ.map ⟨tokOf, tokOf_injective⟩

def u₀ : UU := (Rounds.initOf (Pipeline.cells cfgs cellOf_inj) (Pipeline.launchToks cfgs cellOf_inj), Rounds.initOf allCells allToks)

/-- The duties of device `c`'s own cells. -/
def toks (c : Dev nD) : sProp 𝕄 :=
  iprop((bigSep Finset.univ fun k => dutyTok ER (barCell c) 0 k) ∗ tokRow c 0 ∗ tokRow c 1 ∗ tokRow c 2 ∗ tokRow c 3)

variable (P : Dev nD → FVec F S256x256 .f32) (Y : Dev nD → FVec F S16x256 .f32)

def G (c : Dev nD) : sProp 𝕄 :=
  iprop((bigSep Finset.univ fun o => roundState ER (sched P Y) (kcell (c, o)) 0)
    ∗ (bigSep Finset.univ fun o => iprop(atPos ER (kcell (c, o)) 0 ∅ 0 ∗ reached ER (kcell (c, o)) 0)) ∗ toks c)

def G' (c : Dev nD) : sProp 𝕄 := iprop(∃ K, records P Y K ∗ rights c)

theorem fund : BI.own (ER (Rounds.initOf allCells allToks)) ⊢ (|==> bigSep Finset.univ (G P Y) : sProp 𝕄) := by
  have hX (Φ : GSem nD τ sig → sProp 𝕄) : bigSep allCells Φ = bigSep Finset.univ fun c : Dev nD => bigSep Finset.univ fun o => Φ (kcell (c, o)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    unfold toks tokRow
    rw [bigSep_univ_prod, bigSep_opt, bigSep_fin4]; rfl
  iintro HX
  imod (Rounds.fund ER (sched P Y) allCells allToks) $$ HX with ⟨Hst, Hr, Hat, Htok⟩
  imodintro
  ihave Hst' := (Entails.of_eq (hX fun g => roundState ER (sched P Y) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own semaphores at zero are its four rows at zero. -/
theorem ownSems0_rows (c : Dev nD) : (Pipeline.ownSems0 (Ix := Unit) (Name := ℕ) (U := UU) (Lvl := ℕ) (Val := Elt F) (τ := τ) osem c : sProp 𝕄) = zeros c := by
  unfold Pipeline.ownSems0 zeros zeroRow
  rw [bigSep_univ_prod, bigSep_fin4]
theorem unscopedSems0_bar (c : Dev nD) : (unscopedSems0 c : sProp 𝕄) = semVal (barCell c) 0 := by
  unfold unscopedSems0; rw [bigSep_eq_bigSepL_of_eq [SemLoc.reg barS] (by decide +kernel) (by decide)]; rfl

theorem sems0 (c : Dev nD) :
    iprop(Pipeline.ownSems0 (Ix := Unit) (Name := ℕ) (U := UU) (Lvl := ℕ) (Val := Elt F) (τ := τ) osem c ∗ unscopedSems0 c)
      ⊢ (bigSep Finset.univ fun o => semVal (kcell (c, o)) 0 : sProp 𝕄) := by
  rw [unscopedSems0_bar, bigSep_opt]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G P Y c)
      ⊢ |={Set.univ}=> iprop((bigSep Finset.univ fun o => iprop(∃ κ : ℕ, cellInv ER (sched P Y) κ (kcell (c, o))))
          ∗ (bigSep Finset.univ fun o => iprop(atPos ER (kcell (c, o)) 0 ∅ 0 ∗ reached ER (kcell (c, o)) 0)) ∗ toks c) := by
  unfold G
  iintro ⟨Hos, Hus, Hst, Hat, Htok⟩
  ihave Hv := (sems0 (F := F) c) $$ [Hos Hus]
  · isplitl [Hos] <;> iassumption
  imod (show iprop((bigSep Finset.univ fun o => semVal (kcell (c, o)) 0) ∗ bigSep Finset.univ fun o => roundState ER (sched P Y) (kcell (c, o)) 0)
      ⊢ (|={Set.univ}=> bigSep Finset.univ fun o => iprop(∃ κ : ℕ, cellInv ER (sched P Y) κ (kcell (c, o))) : sProp 𝕄) from by
        rw [← bigSep_sep']
        exact (bigSep_mono fun o _ => (Rounds.body_intro ER (sched P Y) (kcell (c, o))).trans inv_alloc).trans (bigSep_fupd _ _)) $$ [Hv Hst] with Hinv
  · isplitl [Hv] <;> iassumption
  imodintro
  isplitl [Hinv]; · iexact Hinv
  isplitl [Hat]; · iexact Hat
  iexact Htok

/-- Every duty goes to the device that pays it. -/
theorem toks_around : (bigSep Finset.univ fun c : Dev nD => (toks c : sProp 𝕄))
    ⊢ bigSep Finset.univ fun c => iprop(tokBars c ∗ tokRow c 0 ∗ tokPeers c 1 ∗ tokRow c 2 ∗ tokPeers c 3) := by
  unfold toks tokBars tokPeers
  simp only [bigSep_sep']
  rw [around fun c k => (dutyTok ER (barCell c) 0 k : sProp 𝕄),
    ← around fun c k => (dutyTok ER (dCell c 1 k) 0 0 : sProp 𝕄), ← around fun c k => (dutyTok ER (dCell c 3 k) 0 0 : sProp 𝕄)]
  unfold tokRow
  exact BI.Entails.refl _

theorem ats (c : Dev nD) : (bigSep Finset.univ fun o => (atPos ER (kcell (c, o)) 0 ∅ 0 : sProp 𝕄))
    = iprop(atPos ER (barCell c) 0 ∅ 0 ∗ atRow c 0 ∗ atRow c 1 ∗ atRow c 2 ∗ atRow c 3) := by
  unfold atRow
  rw [bigSep_opt, bigSep_univ_prod, bigSep_fin4]

theorem rights_all : iprop((bigSep Finset.univ fun c : Dev nD => bigSep Finset.univ fun o => (atPos ER (kcell (c, o)) 0 ∅ 0 : sProp 𝕄))
      ∗ bigSep Finset.univ fun c => iprop(tokBars c ∗ tokRow c 0 ∗ tokPeers c 1 ∗ tokRow c 2 ∗ tokPeers c 3))
    ⊢ bigSep Finset.univ fun c => (rights c : sProp 𝕄) := by
  rw [← bigSep_sep']
  exact bigSep_mono fun c _ => sep_mono_left (Entails.of_eq (ats c))

theorem rights_intro (K) (c : Dev nD) : iprop(records P Y K ∗ rights c) ⊢ G' P Y c := by
  unfold G'; iintro H; iexists K; iexact H

theorem regroup :
    (bigSep Finset.univ fun c : Dev nD => iprop((bigSep Finset.univ fun o => iprop(∃ κ : ℕ, cellInv ER (sched P Y) κ (kcell (c, o))))
          ∗ (bigSep Finset.univ fun o => iprop(atPos ER (kcell (c, o)) 0 ∅ 0 ∗ reached ER (kcell (c, o)) 0)) ∗ toks c) : sProp 𝕄)
      ⊢ bigSep Finset.univ (G' P Y) := by
  rw [bigSep_sep', bigSep_sep', ← bigSep_univ_prod (fun ck : Dev nD × Option (Fin 4 × Fin 15) => iprop(∃ κ : ℕ, cellInv ER (sched P Y) κ (kcell ck))),
    bigSep_congr (s := Finset.univ) (fun (c : Dev nD) _ => bigSep_sep' Finset.univ (fun o => (atPos ER (kcell (c, o)) 0 ∅ 0 : sProp 𝕄)) (fun o => reached ER (kcell (c, o)) 0)),
    bigSep_sep', ← bigSep_univ_prod (fun ck : Dev nD × Option (Fin 4 × Fin 15) => (reached ER (kcell ck) 0 : sProp 𝕄))]
  iintro ⟨HI, ⟨Hat, #HR⟩, Htok⟩
  ihave HK := (BI.bigSep_exists_pi Finset.univ (fun (ck : Dev nD × Option (Fin 4 × Fin 15)) (κ : ℕ) => (cellInv ER (sched P Y) κ (kcell ck) : sProp 𝕄))) $$ HI
  icases HK with ⟨%K, #HI⟩
  ihave Htk := (toks_around (F := F)) $$ Htok
  iapply (bigSep_beside (R := records P Y K) fun c _ => rights_intro P Y K c)
  isplitr
  · unfold records; isplitl; · iexact HI
    iexact HR
  · iapply (rights_all (F := F))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G P Y c) : sProp 𝕄)
    ⊢ |={Set.univ}=> bigSep Finset.univ (G' P Y) :=
  ((bigSep_mono fun c _ => core_alloc P Y c).trans (bigSep_fupd _ _)).trans (BI.fupd_mono (regroup P Y))

/-! ## The launch's credit -/

theorem units (g : GSem nD τ sig) (s : Finset (Fin 15)) : (∑ _k ∈ s, tallyAt g () 1 : CellTallies nD τ sig Unit) = tallyAt g () s.card := by
  classical
  induction s using Finset.induction_on with
  | empty => rw [Finset.sum_empty, Finset.card_empty, tallyAt_zero]
  | insert a s ha ih => rw [Finset.sum_insert ha, ih, Finset.card_insert_of_notMem ha, ← tallyAt_add, add_comm]

theorem creds_row (j : Fin 4) (c : Dev nD) (D : Dev nD → Fin 15 → CellTallies nD τ sig Unit)
    (hD : ∀ d k, D d k = tallyAt (dCell (ahead d k) j k) () N) : (Pipeline.launchCred (fun d => owedFrom (D d) 0) c : sProp 𝕄) ⊢ credRow c j := by
  rw [show (fun d => owedFrom (D d) 0) = fun d => ∑ k ∈ Finset.univ, tallyAt (dCell (ahead d k) j k) () N from
    funext fun d => (owedFrom_zero _).trans (Finset.sum_congr rfl fun k _ => hD d k)]
  rw [Pipeline.launchCred_sum Finset.univ (fun k d => tallyAt (dCell (ahead d k) j k) () N) c]
  unfold credRow
  exact bigSep_mono fun k _ => Pipeline.launchCred_tallyAt (.dma (dsem j k)) (fun d => ahead d k) (fun d => behind d k)
    (fun d => ahead_behind d k) (fun d => behind_ahead d k) () N c

theorem creds_bar (c : Dev nD) : (Pipeline.launchCred (fun d => owedFrom (dueBar d) 0) c : sProp 𝕄) ⊢ cred (tallyAt (barCell c) () 15) := by
  rw [show (fun d => owedFrom (dueBar d) 0) = fun d => ∑ k ∈ Finset.univ, tallyAt (barCell (ahead d k)) () 1 from
    funext fun d => owedFrom_zero _]
  rw [Pipeline.launchCred_sum Finset.univ (fun k d => tallyAt (barCell (ahead d k)) () 1) c,
    show (tallyAt (barCell c) () 15 : CellTallies nD τ sig Unit) = ∑ _k ∈ (Finset.univ : Finset (Fin 15)), tallyAt (barCell c) () 1 from
      (units (barCell c) Finset.univ).symm, Pipeline.cred_finsetSum]
  exact bigSep_mono fun k _ => Pipeline.launchCred_tallyAt (.reg barS) (fun d => ahead d k) (fun d => behind d k)
    (fun d => ahead_behind d k) (fun d => behind_ahead d k) () 1 c

theorem creds (c : Dev nD) : (Pipeline.launchCred O₀ c : sProp 𝕄) ⊢ credits c := by
  unfold credits
  rw [show (O₀ : Dev nD → CellTallies nD τ sig Unit) = fun d => (owedFrom (dueAg d) 0 + owedFrom (dueRs d) 0) + owedFrom (dueBar d) 0 from rfl,
    Pipeline.launchCred_add, Pipeline.launchCred_add]
  iintro ⟨⟨H3, H1⟩, HB⟩
  isplitl [HB]; · iapply (creds_bar (F := F) c); iexact HB
  isplitl [H1]
  · iapply (creds_row (F := F) 1 c dueRs fun _ _ => rfl); iexact H1
  · iapply (creds_row (F := F) 3 c dueAg fun _ _ => rfl); iexact H3

/-! ## The pipeline -/

variable (m : (ℓ : Loc nD τ sig) → Buf (Elt F) ℓ) (ρ : Dev nD → PrngReg)

/-- The memory at launch: any contents, every semaphore at zero. -/
def s₀ : MemSt nD τ sig (Elt F) := ⟨m, fun _ => 0, ρ⟩

/-- What the input windows hold once fetched. -/
def insOf (c : Dev nD) : Ins F where
  x := (win0_0.blk (0 : Fin 1)).view.read (Elt F) (m ((c : Thread nD τ).loc main_arg0))
  rw := (win0_1.blk (0 : Fin 1)).view.read (Elt F) (m ((c : Thread nD τ).loc main_arg1))
  idx := (win0_2.blk (0 : Fin 1)).view.read (Elt F) (m ((c : Thread nD τ).loc main_arg2))
  ew := (win0_3.blk (0 : Fin 1)).view.read (Elt F) (m ((c : Thread nD τ).loc main_arg3))
  sw := (win0_4.blk (0 : Fin 1)).view.read (Elt F) (m ((c : Thread nD τ).loc main_arg4))

/-- What every device's result window is left holding. -/
def result : FVec F S256x256 .f32 := gathered (done (insOf m))

def start (c : Dev nD) : sProp 𝕄 :=
  iprop(G' (sums (insOf m)) (done (insOf m)) c ∗ credits c ∗ levAts L lv)
def Φ₀ (c : Dev nD) : sProp 𝕄 :=
  iprop(start m c ∗ (∃ f, ((c : Thread nD τ).loc cc0_scratch0) ↦{fullShare} f) ∗ (∃ f, ((c : Thread nD τ).loc cc0_scratch1) ↦{fullShare} f))
def Φ₁ (c : Dev nD) : sProp 𝕄 :=
  iprop((((c : Thread nD τ).loc cc0_scratch0) ↦{fullShare} sums (insOf m) c) ∗ (((c : Thread nD τ).loc cc0_scratch1) ↦{fullShare} landedAll (sums (insOf m)) c)
    ∗ zeros c ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (insOf m c).x
    | ⟨1, _⟩ => (insOf m c).rw
    | ⟨2, _⟩ => (insOf m c).idx
    | ⟨3, _⟩ => (insOf m c).ew
    | ⟨4, _⟩ => (insOf m c).sw
    | ⟨5, _⟩ => result m
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A window's staging buffer, held at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem stg_some (c : Dev nD) (b : Ref sig .tc) {D : Type} (X : D → b.ty.Contents (Elt F)) (Z : b.ty.Contents (Elt F)) (h : ∀ d, X d = Z) :
    (iprop(∃ d, stg c b (X d)) : sProp 𝕄) ⊢ (((c : Thread nD τ).loc b) ↦{fullShare} Z) := by
  iintro ⟨%d, %f, %hf, H⟩
  rw [h] at hf; subst hf; iexact H
theorem stg_any (c : Dev nD) (b : Ref sig .tc) {D : Type} (X : D → b.ty.Contents (Elt F)) :
    (iprop(∃ d, stg c b (X d)) : sProp 𝕄) ⊢ iprop(∃ f, ((c : Thread nD τ).loc b) ↦{fullShare} f) := by
  iintro ⟨%d, %f, -, H⟩
  iexists f; iexact H
theorem stg_intro (c : Dev nD) (b : Ref sig .tc) (X : b.ty.Contents (Elt F)) :
    ((((c : Thread nD τ).loc b) ↦{fullShare} X) : sProp 𝕄) ⊢ stg c b X := by
  iintro H; iexists X; isplitr; · (ipureintro; rfl)
  iexact H

set_option maxRecDepth 4000 in
def bodyPre (c : Dev nD) : sProp 𝕄 :=
  iprop(Φ₀ m c ∗ (dats m ρ 0 c).owesAt () t0_0.castSucc
    ∗ (∃ d, stg c cc0_stg0_0 ((dats m ρ 0 c).before (0 : Fin 6) t0_0 d)) ∗ (∃ d, stg c cc0_stg1_0 ((dats m ρ 0 c).before (1 : Fin 6) t0_0 d))
    ∗ (∃ d, stg c cc0_stg2_0 ((dats m ρ 0 c).before (2 : Fin 6) t0_0 d)) ∗ (∃ d, stg c cc0_stg3_0 ((dats m ρ 0 c).before (3 : Fin 6) t0_0 d))
    ∗ (∃ d, stg c cc0_stg4_0 ((dats m ρ 0 c).before (4 : Fin 6) t0_0 d)) ∗ (∃ d, stg c cc0_stg5_0 ((dats m ρ 0 c).before (5 : Fin 6) t0_0 d)))
def bodyPost (c : Dev nD) : sProp 𝕄 :=
  iprop(Φ₁ m c ∗ (dats m ρ 0 c).owesAt () t0_0.succ ∗ stg c cc0_stg0_0 (insOf m c).x ∗ stg c cc0_stg1_0 (insOf m c).rw
    ∗ stg c cc0_stg2_0 (insOf m c).idx ∗ stg c cc0_stg3_0 (insOf m c).ew ∗ stg c cc0_stg4_0 (insOf m c).sw ∗ stg c cc0_stg5_0 (result m))

theorem body_at (c : Dev nD) : bodyPre m ρ c ⊢ WP c (bodyAt c) fun _ => bodyPost m ρ c := by
  unfold bodyPre Φ₀ start G'
  iintro ⟨⟨⟨⟨%K, HR, Hri⟩, Hcr, Hlev⟩, Hacc, Hrecv⟩, Ho, H0, H1, H2, H3, H4, H5⟩
  ihave H0 := (stg_some c cc0_stg0_0 _ (insOf m c).x fun d => by unfold Dat.before; rw [if_pos (fetch0_0 t0_0)]; rfl) $$ H0
  ihave H1 := (stg_some c cc0_stg1_0 _ (insOf m c).rw fun d => by unfold Dat.before; rw [if_pos (fetch0_1 t0_0)]; rfl) $$ H1
  ihave H2 := (stg_some c cc0_stg2_0 _ (insOf m c).idx fun d => by unfold Dat.before; rw [if_pos (fetch0_2 t0_0)]; rfl) $$ H2
  ihave H3 := (stg_some c cc0_stg3_0 _ (insOf m c).ew fun d => by unfold Dat.before; rw [if_pos (fetch0_3 t0_0)]; rfl) $$ H3
  ihave H4 := (stg_some c cc0_stg4_0 _ (insOf m c).sw fun d => by unfold Dat.before; rw [if_pos (fetch0_4 t0_0)]; rfl) $$ H4
  ihave H5 := (stg_any c cc0_stg5_0 _) $$ H5
  unfold Dat.owesAt Pipeline.owesWithin
  icases Ho with ⟨%W, %hW, HO⟩
  rw [show (dats m ρ 0 c).owed t0_0.castSucc = O₀ c from rfl]
  iapply (wp_body (insOf m) K fun _ => bodyPost m ρ c) $$ [HR Hri Hcr Hlev Hacc Hrecv HO H0 H1 H2 H3 H4 H5]
  · unfold base insPts
    isplitl [HR Hlev HO]
    · isplitl [HR]; · iexact HR
      isplitl [Hlev]; · iexact Hlev
      iexists W; iexact HO
    isplitl [Hri]; · iexact Hri
    isplitl [Hcr]; · iexact Hcr
    isplitl [H0 H1 H2 H3 H4]
    · isplitl [H0]; · iexact H0
      isplitl [H1]; · iexact H1
      isplitl [H2]; · iexact H2
      isplitl [H3] <;> iassumption
    isplitl [Hacc]; · iexact Hacc
    isplitl [Hrecv] <;> iassumption
  unfold base insPts
  iintro ⟨⟨-, -, ⟨%W', HO⟩⟩, ⟨H0, H1, H2, H3, H4⟩, Hacc, Hrecv, H5, Hz, HzB⟩
  unfold bodyPost Φ₁ Dat.owesAt Pipeline.owesWithin
  rw [show (dats m ρ 0 c).owed t0_0.succ = 0 from rfl]
  isplitl [Hacc Hrecv Hz HzB]
  · isplitl [Hacc]; · iexact Hacc
    isplitl [Hrecv]; · iexact Hrecv
    isplitl [Hz] <;> iassumption
  isplitl [HO]
  · iexists W'
    isplitr; · ipureintro; exact fun _ _ => Or.inl trivial
    iexact HO
  isplitl [H0]; · iapply (stg_intro c cc0_stg0_0 (insOf m c).x); iexact H0
  isplitl [H1]; · iapply (stg_intro c cc0_stg1_0 (insOf m c).rw); iexact H1
  isplitl [H2]; · iapply (stg_intro c cc0_stg2_0 (insOf m c).idx); iexact H2
  isplitl [H3]; · iapply (stg_intro c cc0_stg3_0 (insOf m c).ew); iexact H3
  isplitl [H4]; · iapply (stg_intro c cc0_stg4_0 (insOf m c).sw); iexact H4
  iapply (stg_intro c cc0_stg5_0 (result m)); iexact H5

set_option maxRecDepth 20000 in
/-- The body obligation of the pipeline on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ WP c (cc0_body (F := F) xM (Memref.isWhole_whole _) rwM (Memref.isWhole_whole _) idxM (Memref.isWhole_whole _)
      ewM (Memref.isWhole_whole _) swM (Memref.isWhole_whole _) outM (Memref.isWhole_whole _) accM (Memref.isWhole_whole _)
      recvM (Memref.isWhole_whole _) cc0_scratch2 cc0_scratch3 cc0_scratch4 cc0_scratch5) (fun _ => bodyPost m ρ c)
  rw [body_eq]
  unfold WP
  rw [wp_deviceId]
  exact body_at m ρ c

theorem share_eq (c : Dev nD) (w : Fin cfg0.W) : (dats m ρ 0 c).share w = fullShare := by unfold Dat.share; split <;> rfl

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (sums (insOf m)) (done (insOf m)) c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m c from rfl, scopedRest0_eq, ownSems0_rows, unscopedSems0_bar]
  unfold Φ₁
  iintro ⟨Ha, Hr, Hz, HzB⟩
  isplitl [HzB]; · iexact HzB
  isplitl [Hz]; · iexact Hz
  isplitl [Ha]
  · iexists (sums (insOf m) c); iexact Ha
  · iexists (landedAll (sums (insOf m)) c); iexact Hr

theorem stage_place : ∀ (w : Fin cfg0.W) (s : Fin (cfg0.spec w).nbuf), place ((cfg0.spec w).sem s) = none := by decide +kernel

theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_place w s) _ (by
      rcases t with ⟨_ | _, ht⟩
      · exact Or.inl rfl
      · exact Or.inr rfl)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, every weakly fair execution of the program on the sixteen devices ends, each window's
    array at its final contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => block_pos0 w) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (sums (insOf m)) (done (insOf m))) (G' := G' (sums (insOf m)) (done (insOf m))) (u₀ := u₀)
    (hu₀ := by
      unfold u₀
      iintro Hu
      ihave H := (ownU_pair _ _) $$ Hu
      icases H with ⟨HP, HX⟩
      imod (fund (sums (insOf m)) (done (insOf m))) $$ HX with HG
      imodintro
      isplitl [HP] <;> iassumption)
    (hglob := glob (sums (insOf m)) (done (insOf m)))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.MoeProof

end
-- ==== Proof.Value.lean ====
/-
# The kernel's result at the extended reals

What the gathered rows hold, read at an index: over the thirty-two experts the sum of a token's weight for the expert times
the expert's output, plus the shared expert's output. A device's partial sum is the two terms of its own experts, and its
finished rows add up the sixteen partial sums.
-/
module

public import proofs.«01_k».proof.Proof.Launch
public import Idealize.ShloMosaic.Lib.MatmulPlain
public import Idealize.ShloMosaic.Lib.ValueIdx
public import Idealize.ShloMosaic.Lib.Pipeline.Value
public import Idealize.ShloMosaic.Lib.Layout

@[expose] public section

noncomputable section

namespace Cert.MoeProof

open Cert.KernelIdeal Cert.KernelIdeal.Gen
open Idealize.ShloMosaic Idealize.ShloMosaic.TcCoe Idealize.ShloMosaic.ValueIdx
open scoped BigOperators

/-! ## The mathematics -/

/-- Entry `(n, h)` of tokens times a weight matrix. -/
def prod (x : FVec Ideal S256x128 .f32) (w : Fin 128 → Fin 256 → EReal) (n h : Fin 256) : EReal :=
  ∑ d : Fin 128, x (ix2 n d) * w d h

/-- The router's probabilities. -/
def probs (x : FVec Ideal S256x128 .f32) (rw : FVec Ideal S128x32 .f32) : FVec Ideal S256x32 .f32 :=
  divf (k0_pay2 x rw) (k0_pay3 x rw)

/-- The weight of expert `e` for token `n`: its probability where the token chose it, else zero. -/
def gate (x : FVec Ideal S256x128 .f32) (rw : FVec Ideal S128x32 .f32) (idx : IVec S256x1 32) (n : Fin 256) (e : Fin 32) : EReal :=
  if BitVec.ofNat 32 e.val = idx (ix2 n (0 : Fin 1)) then probs x rw (ix2 n e) else 0

/-- Entry `(n, h)` of the layer. -/
def moe (x : FVec Ideal S256x128 .f32) (rw : FVec Ideal S128x32 .f32) (idx : IVec S256x1 32)
    (W : Fin 32 → Fin 128 → Fin 256 → EReal) (sw : Fin 128 → Fin 256 → EReal) (n h : Fin 256) : EReal :=
  (∑ e, gate x rw idx n e * prod x (W e) n h) + prod x sw n h

/-- Expert `j` of device `c`. -/
def expert (c : Dev nD) (j : Fin 2) : Fin 32 := ⟨2 * c.val + j.val, by have := c.isLt; have := j.isLt; change c.val < 16 at *; omega⟩

theorem sum_experts (f : Fin 32 → EReal) : (∑ c : Dev nD, (f (expert c 0) + f (expert c 1))) = ∑ e, f e := by
  rw [← Equiv.sum_comp (finProdFinEquiv (m := 16) (n := 2)) f, Fintype.sum_prod_type]
  refine Finset.sum_congr rfl fun c _ => ?_
  rw [Fin.sum_univ_two]
  congr 2 <;> exact Fin.ext (Nat.add_comm _ _)

/-! ## Reading the operations -/

theorem ixRows_eq (r j : Fin 256) : ixRows r j = (ix2 r j : S256x256.Idx) := by funext a; fin_cases a <;> rfl
theorem ixPiece_eq (r : Fin 16) (j : Fin 256) : ixPiece r j = (ix2 r j : S16x256.Idx) := by funext a; fin_cases a <;> rfl

theorem select_eq {α : Type} {w : Nat} (a b : BitVec w) (x y : α) : Scalar.select (IntOp.cmpi .eq a b) x y = if a = b then x else y := by
  unfold Scalar.select IntOp.cmpi
  by_cases h : a = b
  · subst h; simp
  · have hb : (a == b) = false := beq_eq_false_iff_ne.2 h
    rw [if_neg h, hb]; rfl

theorem ofNat32_inj {a b : Fin 32} (h : BitVec.ofNat 32 a.val = BitVec.ofNat 32 b.val) : a = b := by
  have h := congrArg BitVec.toNat h
  rw [BitVec.toNat_ofNat, BitVec.toNat_ofNat] at h
  exact Fin.ext (by omega)

theorem expert_word (c : Dev nD) (j : Fin 2) :
    Scalar.addi (Scalar.muli (numOf c) 2#32) (BitVec.ofNat 32 j.val) = BitVec.ofNat 32 (expert c j).val := by
  revert c j; decide +kernel

/-- A column of row values spread along the rows, read at an index. -/
theorem spread_apply {α : Type} {m n : Nat} (hn : 1 < m) (v : (⟨1, ![m]⟩ : Shape).Idx → α) (hs : (⟨1, ![m]⟩ : Shape).ShapeCasts ⟨2, ![m, 1]⟩)
    (hb : (⟨2, ![m, 1]⟩ : Shape).Broadcasts ⟨2, ![m, n]⟩) (r : Fin m) (j : Fin n) :
    broadcastTo ⟨2, ![m, n]⟩ (shapeCast ⟨2, ![m, 1]⟩ v hs) hb (ix2 r j) = v (ix1 r) := by
  refine (broadcastTo_apply _ hb (ix2 r j) (ix2 r (0 : Fin 1)) fun a => ?_).trans
    (shapeCast_apply v hs (ix2 r (0 : Fin 1)) (ix1 r) ?_)
  · match a with
    | ⟨0, _⟩ => exact (if_neg (show ¬ m = 1 by omega)).symm
    | ⟨1, _⟩ => rfl
  · rw [Shape.rowMajor_val_two, Shape.rowMajor_val_one]; show r.val = r.val * 1 + 0; omega

/-- A column spread along the rows, read at an index. -/
theorem column_apply {α : Type} {m n : Nat} (hn : 1 < m) (v : (⟨2, ![m, 1]⟩ : Shape).Idx → α)
    (hb : (⟨2, ![m, 1]⟩ : Shape).Broadcasts ⟨2, ![m, n]⟩) (r : Fin m) (j : Fin n) :
    broadcastTo ⟨2, ![m, n]⟩ v hb (ix2 r j) = v (ix2 r (0 : Fin 1)) := by
  refine broadcastTo_apply _ hb (ix2 r j) (ix2 r (0 : Fin 1)) fun a => ?_
  match a with
  | ⟨0, _⟩ => exact (if_neg (show ¬ m = 1 by omega)).symm
  | ⟨1, _⟩ => rfl

/-- The sum along the rows, read at a row. -/
theorem rowSum_apply {m n : Nat} (src : FVec Ideal ⟨2, ![m, n]⟩ .f32) (h : (⟨2, ![m, n]⟩ : Shape).Reduces [1] ⟨1, ![m]⟩)
    (hφ : FKind.Formats .f32) (hacc : (0x00000000#32 : BitVec FTy.f32.bits) = FKind.add.neutral .f32 hφ) (r : Fin m) :
    multiReduction .add [1] ⟨1, ![m]⟩ src 0x00000000#32 h hφ hacc (ix1 r) = ∑ k : Fin n, src (ix2 r k) := by
  refine (Ideal.multiReduction_add_single src _ h hφ hacc (ix1 r)).trans (Finset.sum_congr rfl fun k _ => congrArg src ?_)
  funext a; apply Fin.ext; fin_cases a <;> rfl

/-- The sum over the leading axis, read at an index. -/
theorem slotSum_apply (src : FVec Ideal S15x16x256 .f32) (h : S15x16x256.Reduces [0] S16x256)
    (hφ : FKind.Formats .f32) (hacc : (0x00000000#32 : BitVec FTy.f32.bits) = FKind.add.neutral .f32 hφ) (r : Fin 16) (j : Fin 256) :
    multiReduction .add [0] S16x256 src 0x00000000#32 h hφ hacc (ix2 r j) = ∑ k : Fin 15, src (ix3 k r j) := by
  refine (Ideal.multiReduction_add_single src _ h hφ hacc (ix2 r j)).trans (Finset.sum_congr rfl fun k _ => congrArg src ?_)
  funext a; apply Fin.ext; fin_cases a <;> rfl

theorem matmul_tokens (x : FVec Ideal S256x128 .f32) (w : FVec Ideal S128x256 .f32) (n h : Fin 256) :
    matmul dot_S256x128_S128x256_S256x256_1_0_0_1_n_n none x w (constant S256x256 .f32 0x00000000#32) (ix2 n h)
      = prod x (fun d h => w (ix2 d h)) n h := by
  refine (Ideal.matmul_plain_apply (M := 256) (K := 128) (N := 256) none x w _ n h).trans ?_
  rw [constant_apply, Ideal.ofBits_zero_f32, zero_add]; rfl

theorem matmul_rows (x : FVec Ideal S16x128 .f32) (w : FVec Ideal S128x256 .f32) (n : Fin 16) (h : Fin 256) :
    matmul dot_S16x128_S128x256_S16x256_1_0_0_1_n_n none x w (constant S16x256 .f32 0x00000000#32) (ix2 n h)
      = ∑ d : Fin 128, x (ix2 n d) * w (ix2 d h) := by
  refine (Ideal.matmul_plain_apply (M := 16) (K := 128) (N := 256) none x w _ n h).trans ?_
  rw [constant_apply, Ideal.ofBits_zero_f32, zero_add]

/-! ## A device's partial sum -/

/-- The weights of one expert's tokens, as a column: of the weights masked to the expert's column, the sums along the rows. -/
theorem weight_apply (x : FVec Ideal S256x128 .f32) (rw : FVec Ideal S128x32 .f32) (idx : IVec S256x1 32) (g : BitVec 32) (e : Fin 32)
    (hg : g = BitVec.ofNat 32 e.val) (n : Fin 256) :
    (∑ k : Fin 32, (select (cmpi .eq (iota .tc S256x32 32 [1] iota_S256x32_d1_w32) (broadcast S256x32 g))
        (select (cmpi .eq (iota .tc S256x32 32 [1] iota_S256x32_d1_w32) (broadcastTo S256x32 idx broadcasts_S256x1_S256x32))
          (probs x rw) (broadcast S256x32 (Scalar.ofBits .f32 0x00000000#32)))
        (broadcast S256x32 (Scalar.ofBits .f32 0x00000000#32)) : FVec Ideal S256x32 .f32) (ix2 n k)) = gate x rw idx n e := by
  subst hg
  have hz : (Scalar.ofBits .f32 0x00000000#32 : Ideal .f32) = (0 : EReal) := Ideal.ofBits_zero_f32
  rw [hz]
  have h : ∀ k : Fin 32, (select (cmpi .eq (iota .tc S256x32 32 [1] iota_S256x32_d1_w32) (broadcast S256x32 (BitVec.ofNat 32 e.val)))
        (select (cmpi .eq (iota .tc S256x32 32 [1] iota_S256x32_d1_w32) (broadcastTo S256x32 idx broadcasts_S256x1_S256x32))
          (probs x rw) (broadcast S256x32 (0 : EReal))) (broadcast S256x32 (0 : EReal)) : FVec Ideal S256x32 .f32) (ix2 n k)
      = if k = e then gate x rw idx n k else 0 := by
    intro k
    have hi : iota .tc S256x32 32 [1] iota_S256x32_d1_w32 (ix2 n k) = BitVec.ofNat 32 k.val := iota_single_apply _ _ _ _ _ _
    rw [select_apply, select_apply]
    show Scalar.select (IntOp.cmpi .eq (iota .tc S256x32 32 [1] iota_S256x32_d1_w32 (ix2 n k)) (BitVec.ofNat 32 e.val))
      (Scalar.select (IntOp.cmpi .eq (iota .tc S256x32 32 [1] iota_S256x32_d1_w32 (ix2 n k)) (broadcastTo S256x32 idx broadcasts_S256x1_S256x32 (ix2 n k)))
        (probs x rw (ix2 n k)) (0 : EReal)) (0 : EReal) = _
    rw [hi, column_apply (m := 256) (n := 32) (by decide) idx broadcasts_S256x1_S256x32 n k, select_eq, select_eq]
    by_cases hk : k = e
    · subst hk; rw [if_pos rfl, if_pos rfl]; rfl
    · rw [if_neg hk, if_neg fun h => hk (ofNat32_inj h)]
  rw [Finset.sum_congr rfl fun k _ => h k, Finset.sum_ite_eq' Finset.univ e (gate x rw idx n), if_pos (Finset.mem_univ e)]

theorem partVal_apply (c : Dev nD) (x : FVec Ideal S256x128 .f32) (rw : FVec Ideal S128x32 .f32) (idx : IVec S256x1 32)
    (w0 w1 : FVec Ideal S1x128x256 .f32) (n h : Fin 256) :
    partVal (F := Ideal) c x rw idx w0 w1 (ix2 n h)
      = gate x rw idx n (expert c 0) * prod x (fun d h => w0 (ix3 0 d h)) n h
        + gate x rw idx n (expert c 1) * prod x (fun d h => w1 (ix3 0 d h)) n h := by
  have hw : ∀ (w : FVec Ideal S1x128x256 .f32) (d : Fin 128) (h : Fin 256),
      shapeCast S128x256 w shapeCasts_S1x128x256_S128x256 (ix2 d h) = w (ix3 0 d h) := fun w d h =>
    shapeCast_apply w _ (ix2 d h) (ix3 0 d h) (by
      rw [Shape.rowMajor_val_three, Shape.rowMajor_val_two]; show (0 * 128 + d.val) * 256 + h.val = d.val * 256 + h.val; omega)
  have hz : ∀ a b : EReal, (Scalar.ofBits .f32 0x00000000#32 : Ideal .f32) + a + b = a + b := fun a b => by
    rw [show (Scalar.ofBits .f32 0x00000000#32 : Ideal .f32) = (0 : EReal) from Ideal.ofBits_zero_f32, zero_add]
  unfold partVal k0_pay5 k0_pay4 k0_pay1
  simp only [shapeCast_self]
  rw [addf_apply, addf_apply, mulf_apply, mulf_apply, broadcast_apply]
  refine (hz _ _).trans ?_
  rw [spread_apply (m := 256) (n := 256) (by decide), spread_apply (m := 256) (n := 256) (by decide)]
  rw [matmul_tokens, matmul_tokens]
  simp only [hw]
  exact congrArg₂ (· + ·) (congrArg (· * _) ((rowSum_apply _ _ _ _ n).trans (weight_apply x rw idx _ (expert c 0) (expert_word c 0) n)))
    (congrArg (· * _) ((rowSum_apply _ _ _ _ n).trans (weight_apply x rw idx _ (expert c 1) (expert_word c 1) n)))

/-! ## The finished rows -/

variable (x : FVec Ideal S256x128 .f32) (rw : FVec Ideal S128x32 .f32) (idx : IVec S256x1 32) (W : Fin 32 → Fin 128 → Fin 256 → EReal)
  (sw : FVec Ideal S128x256 .f32)

/-- Device `c` holds the replicated arrays and its own two experts. -/
structure Holds (c : Dev nD) (a : Ins Ideal) : Prop where
  x : a.x = x
  rw : a.rw = rw
  idx : a.idx = idx
  ew : ∀ (j : Fin 2) (d : Fin 128) (h : Fin 256), a.ew (ix3 j d h) = W (expert c j) d h
  sw : a.sw = sw

/-- The term of expert `e` at `(n, h)`. -/
def term (n h : Fin 256) (e : Fin 32) : EReal := gate x rw idx n e * prod x (W e) n h

theorem ew_read (c : Dev nD) (a : Ins Ideal) (hx : Holds x rw idx W sw c a) :
    (∀ d h, (ewM.view.readAt (Elt Ideal) rEw0.toLoadRect a.ew : FVec Ideal S1x128x256 .f32) (ix3 0 d h) = W (expert c 0) d h)
      ∧ (∀ d h, (ewM.view.readAt (Elt Ideal) rEw1.toLoadRect a.ew : FVec Ideal S1x128x256 .f32) (ix3 0 d h) = W (expert c 1) d h) := by
  constructor <;> intro d h
  · refine Eq.trans (congrArg a.ew (funext fun ax => ?_)) (hx.ew 0 d h)
    fin_cases ax <;> refine Fin.ext ?_
    · rfl
    · show 0 + 1 * d.val = d.val; omega
    · show 0 + 1 * h.val = h.val; omega
  · refine Eq.trans (congrArg a.ew (funext fun ax => ?_)) (hx.ew 1 d h)
    fin_cases ax <;> refine Fin.ext ?_
    · rfl
    · show 0 + 1 * d.val = d.val; omega
    · show 0 + 1 * h.val = h.val; omega

theorem partOf_apply (c : Dev nD) (a : Ins Ideal) (hx : Holds x rw idx W sw c a) (n h : Fin 256) :
    partOf c a (ix2 n h) = term x rw idx W n h (expert c 0) + term x rw idx W n h (expert c 1) := by
  obtain ⟨h0, h1⟩ := ew_read x rw idx W sw c a hx
  unfold partOf term
  refine (partVal_apply c _ _ _ _ _ n h).trans ?_
  rw [hx.x, hx.rw, hx.idx]
  simp only [h0, h1]

theorem sharedOf_apply (c : Dev nD) (a : Ins Ideal) (hx : Holds x rw idx W sw c a) (r : Fin 16) (h : Fin 256) :
    sharedOf c a (ix2 r h) = prod x (fun d h => sw (ix2 d h)) (rowOf c r) h := by
  unfold sharedOf k0_pay6 prod
  simp only [shapeCast_self]
  rw [matmul_rows, hx.sw]
  refine Finset.sum_congr rfl fun d _ => congrArg (· * _) ?_
  rw [hx.x]
  have ho : k0_off2 c = ![16 * c.val, 0] := k0_off2_eq c
  refine congrArg x (funext fun ax => ?_)
  fin_cases ax <;> refine Fin.ext ?_
  · show k0_off2 c 0 + 1 * r.val = 16 * c.val + r.val
    rw [ho, Nat.one_mul]; rfl
  · show k0_off2 c 1 + 1 * d.val = d.val
    rw [ho, Nat.one_mul]; exact Nat.zero_add _

/-- All devices' values add up to this one's and its peers'. -/
theorem sum_peers (c : Dev nD) (f : Dev nD → EReal) : f c + ∑ k : Fin 15, f (behind c k) = ∑ d, f d := by
  rw [← Finset.add_sum_erase Finset.univ f (Finset.mem_univ c), univ_erase, Finset.sum_map, ← Equiv.sum_comp Fin.revPerm]
  refine congrArg (f c + ·) (Finset.sum_congr rfl fun k _ => ?_)
  show f (behind c k.rev) = f (ahead c k)
  rw [behind_rev]

theorem done_apply (v : Dev nD → Ins Ideal) (hv : ∀ c, Holds x rw idx W sw c (v c)) (c : Dev nD) (r : Fin 16) (h : Fin 256) :
    done v c (ix2 r h) = moe x rw idx W (fun d h => sw (ix2 d h)) (rowOf c r) h := by
  unfold done k0_pay7
  rw [addf_apply, addf_apply, sharedOf_apply x rw idx W sw c (v c) (hv c), read_acc]
  refine (congrArg (fun z => (_ + z) + _) (slotSum_apply _ _ _ _ r h)).trans ?_
  unfold moe
  refine congrArg (· + _) ?_
  have hp : ∀ d, sums v d (ixRows (rowOf c r) h) = term x rw idx W (rowOf c r) h (expert d 0) + term x rw idx W (rowOf c r) h (expert d 1) := fun d => by
    rw [ixRows_eq]; exact partOf_apply x rw idx W sw d (v d) (hv d) _ _
  show sums v c (ixRows (rowOf c r) h) + ∑ k : Fin 15, sums v (behind c k) (ixRows (rowOf c r) h) = _
  rw [sum_peers c fun d => sums v d (ixRows (rowOf c r) h), Finset.sum_congr rfl fun d _ => hp d]
  exact sum_experts (term x rw idx W (rowOf c r) h)

/-- What every device ends with, read at an index. -/
theorem gathered_apply (v : Dev nD → Ins Ideal) (hv : ∀ c, Holds x rw idx W sw c (v c)) (n h : Fin 256) :
    gathered (done v) (ix2 n h) = moe x rw idx W (fun d h => sw (ix2 d h)) n h := by
  unfold gathered
  rw [ixPiece_eq]
  refine (done_apply x rw idx W sw v hv _ _ _).trans ?_
  refine congrArg (fun n => moe x rw idx W _ n h) (Fin.ext ?_)
  show 16 * (n.val / 16) + n.val % 16 = n.val
  omega

end Cert.MoeProof

end
-- ==== Proof.Reference.lean ====
/-
# The reference at the extended reals

The reference's result read at an index is the same sum over the experts as the kernel's: it takes the one chosen expert,
whose weight is the only one of the thirty-two that is not zero, and an index that names no expert weighs zero.
-/
module

public import proofs.«01_k».proof.Proof.Value
public import proofs.«01_k».proof.Proof.Gen.ReferenceIdeal.Run
public import Idealize.ShloMosaic.Lib.KernelVsHost
public import Idealize.ShloMosaic.Lib.StackMember
public import Idealize.ShloMosaic.Lib.IdealHost

@[expose] public section

noncomputable section

namespace Cert.MoeProof.Ref

open Cert.ReferenceIdeal Cert.ReferenceIdeal.Gen
open Idealize.ShloMosaic Idealize.ShloMosaic.TcCoe Idealize.ShloMosaic.ValueIdx
open scoped BigOperators

/-! ## The reference's pieces, named -/

/-- The scores. -/
def scores (x : FVec Ideal S256x128 .f32) (rw : FVec Ideal S128x32 .f32) : FVec Ideal S256x32 .f32 :=
  Host.dotGeneral dot_S256x128_S128x32_S256x32_1_0_0_1_n_n none x rw

/-- A value per token spread over the experts. -/
def overExperts (v : FVec Ideal S256 .f32) : FVec Ideal S256x32 .f32 :=
  broadcastInDim S256x32 ![0, 1] bcast_S256x1_S256x32_0_1 (broadcastInDim S256x1 ![0] bcast_S256_S256x1_0 v)

/-- The exponentials of the scores less their maximum. -/
def expScores (x : FVec Ideal S256x128 .f32) (rw : FVec Ideal S128x32 .f32) : FVec Ideal S256x32 .f32 :=
  Host.exp (subf (scores x rw)
    (overExperts (Host.reduce FloatOps.maximumf (scores x rw) (constant S_ .f32 0xFF800000#32) reducesTo_S256x32_S256_d1 h_S_)))

/-- The router's probabilities. -/
def softmax (x : FVec Ideal S256x128 .f32) (rw : FVec Ideal S128x32 .f32) : FVec Ideal S256x32 .f32 :=
  Host.divf (expScores x rw)
    (overExperts (Host.reduceAdd (expScores x rw) (constant S_ .f32 0x00000000#32) reducesTo_S256x32_S256_d1 h_S_))

/-- A word per token as a column. -/
def column (v : IVec S256 32) : IVec S256x1 32 := broadcastInDim S256x1 ![0] bcast_S256_S256x1_0 v

/-- The chosen experts as a vector. -/
def chosen (idx : IVec S256x1 32) : IVec S256 32 := shapeCast S256 idx shapeCasts_S256x1_S256

/-- Each token's number beside its expert's. -/
def pairs (idx : IVec S256x1 32) : IVec S256x2 32 :=
  concatenate S256x2 1 [⟨S256x1, column (iotaInDim S256 32 0)⟩, ⟨S256x1, column (chosen idx)⟩] concatenates_S256x1_S256x1_S256x2_d1

/-- Whether a token's pair names a probability. -/
def within (idx : IVec S256x1 32) : IVec S256 1 :=
  Host.reduce IntOp.andi (andi (cmpi .sge (pairs idx) (broadcastInDim S256x2 ![] bcast_S_S256x2 (constantI S_ 32 0#32)))
    (cmpi .sle (pairs idx) (broadcastInDim S256x2 ![0, 1] bcast_S1x2_S256x2_0_1
      (broadcastInDim S1x2 ![1] bcast_S2_S1x2_1 (fun i => lit0 (S2.rowMajor i))))))
    (constantI S_ 1 1#1) reducesTo_S256x2_S256_d1 h_S_

/-- The chosen probabilities, zero where none is chosen. -/
def weights (x : FVec Ideal S256x128 .f32) (rw : FVec Ideal S128x32 .f32) (idx : IVec S256x1 32) : FVec Ideal S256 .f32 :=
  select (within idx) (Host.gather gather_S256x32_S256x2_S256_n_01_n_n_01_1_11 (softmax x rw) (pairs idx))
    (broadcastInDim S256 ![] bcast_S_S256 (constant S_ .f32 0x00000000#32))

/-- The chosen experts' matrices. -/
def matrices (idx : IVec S256x1 32) (W : FVec Ideal S32x128x256 .f32) : FVec Ideal S256x128x256 .f32 :=
  Host.gather gather_S32x128x256_S256x1_S256x128x256_12_0_n_n_0_1_1128256 W (column (chosen idx))

/-- The layer as the reference computes it. -/
def value (x : FVec Ideal S256x128 .f32) (rw : FVec Ideal S128x32 .f32) (idx : IVec S256x1 32) (W : FVec Ideal S32x128x256 .f32)
    (sw : FVec Ideal S128x256 .f32) : FVec Ideal S256x256 .f32 :=
  addf (Host.dotGeneral dot_S256x128_S128x256_S256x256_1_0_0_1_n_n none x sw)
    (mulf (broadcastInDim S256x256 ![0, 1] bcast_S256x1_S256x256_0_1 (broadcastInDim S256x1 ![0] bcast_S256_S256x1_0 (weights x rw idx)))
      (Host.dotGeneral dot_S256x128_S256x128x256_S256x256_1_1_n_2_0_0 none x (matrices idx W)))

/-! ## Columns -/

/-- A vector as a column, read at an index. -/
theorem asColumn_apply {α : Type} (v : S256.Idx → α) (n : Fin 256) (z : Fin 1) :
    broadcastInDim S256x1 ![0] bcast_S256_S256x1_0 v (ix2 n z) = v (ix1 n) :=
  broadcastInDim_apply _ _ v (ix2 n z) (ix1 n) fun a => by match a with | ⟨0, _⟩ => rfl

theorem overExperts_eq (v : FVec Ideal S256 .f32) :
    overExperts v = broadcastTo Cert.KernelIdeal.S256x32 (shapeCast Cert.KernelIdeal.S256x1 v Cert.KernelIdeal.Gen.shapeCasts_S256_S256x1)
      Cert.KernelIdeal.Gen.broadcasts_S256x1_S256x32 := by
  funext j
  obtain ⟨n, k, rfl⟩ : ∃ (n : Fin 256) (k : Fin 32), j = ix2 n k := ⟨j 0, j 1, eq_ix2 j⟩
  refine Eq.trans ?_ (spread_apply (m := 256) (n := 32) (by decide) v _ _ n k).symm
  refine (broadcastInDim_apply _ _ _ (ix2 n k) (ix2 n (0 : Fin 1)) fun a => ?_).trans (asColumn_apply v n 0)
  match a with
  | ⟨0, _⟩ => rfl
  | ⟨1, _⟩ => rfl

theorem expScores_eq (x : FVec Ideal S256x128 .f32) (rw : FVec Ideal S128x32 .f32) :
    expScores x rw = Cert.KernelIdeal.Gen.k0_pay2 (F := Ideal) x rw := by
  unfold expScores Cert.KernelIdeal.Gen.k0_pay2 Cert.KernelIdeal.Gen.k0_pay1
  simp only [shapeCast_self]
  have hs : scores x rw = matmul Cert.KernelIdeal.dot_S256x128_S128x32_S256x32_1_0_0_1_n_n none x rw
      (constant Cert.KernelIdeal.S256x32 .f32 0x00000000#32) := (matmul_zero_eq_dotGeneral _ none x rw).symm
  rw [← hs, overExperts_eq, hostReduce_maximumf_eq_multiReduction (scores x rw) 0xFF800000#32 reducesTo_S256x32_S256_d1 h_S_
    Cert.KernelIdeal.Gen.reduces_S256x32_S256 (.inl rfl) rfl]
  rfl

theorem softmax_eq (x : FVec Ideal S256x128 .f32) (rw : FVec Ideal S128x32 .f32) : softmax x rw = probs x rw := by
  unfold softmax probs Cert.KernelIdeal.Gen.k0_pay3
  rw [expScores_eq, overExperts_eq, ← multiReduction_add_eq_hostReduceAdd (Cert.KernelIdeal.Gen.k0_pay2 (F := Ideal) x rw) 0x00000000#32
    Cert.KernelIdeal.Gen.reduces_S256x32_S256 (.inl rfl) rfl (constant S_ .f32 0x00000000#32) reducesTo_S256x32_S256_d1 h_S_ Ideal.ofBits_zero_f32]
  rfl

/-! ## The chosen expert -/

theorem column_chosen (idx : IVec S256x1 32) (n : Fin 256) (z : Fin 1) : column (chosen idx) (ix2 n z) = idx (ix2 n (0 : Fin 1)) := by
  refine (asColumn_apply _ n z).trans (shapeCast_apply idx _ (ix1 n) (ix2 n (0 : Fin 1)) ?_)
  rw [Shape.rowMajor_val_two, Shape.rowMajor_val_one]; show n.val * 1 + 0 = n.val; omega

theorem pairs_left (idx : IVec S256x1 32) (n : Fin 256) : pairs idx (ix2 n (0 : Fin 2)) = BitVec.ofNat 32 n.val :=
  (concatenate_pair_apply_left (t := S256x2) (s₁ := S256x1) (s₂ := S256x1) _ _ _ _ (ix2 n (0 : Fin 2)) rfl (ix2 n (0 : Fin 1)) fun b => by
    match b with | ⟨0, _⟩ => rfl | ⟨1, _⟩ => rfl).trans (asColumn_apply _ n 0)

theorem pairs_right (idx : IVec S256x1 32) (n : Fin 256) : pairs idx (ix2 n (1 : Fin 2)) = idx (ix2 n (0 : Fin 1)) :=
  (concatenate_pair_apply_right (t := S256x2) (s₁ := S256x1) (s₂ := S256x1) _ _ _ _ (ix2 n (1 : Fin 2)) rfl rfl (ix2 n (0 : Fin 1)) (fun b hb => by
    match b, hb with
    | ⟨0, _⟩, _ => rfl
    | ⟨1, _⟩, hb => exact absurd rfl hb) rfl).trans (column_chosen idx n 0)

/-- Signed word comparison with a bound, as a bit. -/
def inside (w : BitVec 32) (b : BitVec 32) : BitVec 1 := IntOp.andi (IntOp.cmpi .sge w 0#32) (IntOp.cmpi .sle w b)

theorem inside_token (n : Fin 256) : inside (BitVec.ofNat 32 n.val) 255#32 = 1#1 := by revert n; decide +kernel

instance : Std.Commutative (IntOp.andi (w := 1)) := ⟨by decide⟩
instance : Std.Associative (IntOp.andi (w := 1)) := ⟨by decide⟩

theorem within_apply (idx : IVec S256x1 32) (n : Fin 256) : within idx (ix1 n) = inside (idx (ix2 n (0 : Fin 1))) 31#32 := by
  have hr : S256x2.Reduces [1] S256 := by decide
  unfold within
  rw [Host.reduce_eq_fold_single IntOp.andi _ _ reducesTo_S256x2_S256_d1 hr h_S_]
  have hl : ∀ k : Fin 2, hr.lift (ix1 n) k = ix2 n k := fun k => by
    funext a; apply Fin.ext; fin_cases a <;> rfl
  have hf : ∀ (b : BitVec 1) (f : Fin 2 → BitVec 1), (Finset.univ : Finset (Fin 2)).fold IntOp.andi b f = IntOp.andi (f 0) (IntOp.andi (f 1) b) := by
    intro b f
    rw [show (Finset.univ : Finset (Fin 2)) = {0, 1} from rfl, Finset.fold_insert (by decide), Finset.fold_singleton]
  refine (hf _ _).trans ?_
  simp only [Function.comp]
  rw [hl 0, hl 1]
  show IntOp.andi (IntOp.andi (IntOp.cmpi .sge (pairs idx (ix2 n (0 : Fin 2))) 0#32) (IntOp.cmpi .sle (pairs idx (ix2 n (0 : Fin 2))) 255#32))
    (IntOp.andi (IntOp.andi (IntOp.cmpi .sge (pairs idx (ix2 n (1 : Fin 2))) 0#32) (IntOp.cmpi .sle (pairs idx (ix2 n (1 : Fin 2))) 31#32)) 1#1) = _
  rw [pairs_left, pairs_right]
  have h1 := inside_token n
  unfold inside at h1 ⊢
  rw [h1]
  generalize IntOp.andi (IntOp.cmpi .sge (idx (ix2 n (0 : Fin 1))) 0#32) (IntOp.cmpi .sle (idx (ix2 n (0 : Fin 1))) 31#32) = b
  revert b; decide

/-- The expert a word is clamped to. -/
def clamped (w : BitVec 32) : Fin 32 := ⟨min w.toInt.toNat 31, by omega⟩

theorem token_toNat (n : Fin 256) : min (BitVec.ofNat 32 n.val).toInt.toNat 255 = n.val := by revert n; decide +kernel

theorem matrices_apply (idx : IVec S256x1 32) (W : FVec Ideal S32x128x256 .f32) (n : Fin 256) (d : Fin 128) (h : Fin 256) :
    matrices idx W (ix3 n d h) = W (ix3 (clamped (idx (ix2 n (0 : Fin 1)))) d h) := by
  unfold matrices Host.gather
  refine congrArg W (funext fun a => Fin.ext ?_)
  generalize hD : gather_S32x128x256_S256x1_S256x128x256_12_0_n_n_0_1_1128256 = D
  show D.start (ix3 n d h) (column (chosen idx)) a + D.batchCoord (ix3 n d h) a + D.offCoord (ix3 n d h) a = _
  subst hD
  rw [GatherDims.batchCoord_eq_zero _ _ _ List.not_mem_nil, Nat.add_zero]
  have ha : a = (0 : Fin 3) ∨ a = (1 : Fin 3) ∨ a = (2 : Fin 3) := by fin_cases a <;> decide
  rcases ha with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ gather_S32x128x256_S256x1_S256x128x256_12_0_n_n_0_1_1128256.startIndexMap from List.mem_singleton.mpr rfl)]
    refine (congrArg (fun i => min (column (chosen idx) i).toInt.toNat 31) (show _ = ix2 n (0 : Fin 1) from ?_)).trans ?_
    · funext b; refine Fin.ext ?_
      match b with
      | ⟨0, _⟩ => rfl
      | ⟨1, _⟩ => rfl
    · show min (column (chosen idx) (ix2 n (0 : Fin 1))).toInt.toNat 31 = _
      rw [column_chosen]; rfl
  · unfold GatherDims.start GatherDims.offCoord
    rw [dif_neg (show (1 : Fin 3) ∉ gather_S32x128x256_S256x1_S256x128x256_12_0_n_n_0_1_1128256.startIndexMap from by show (1 : Fin 3) ∉ [(0 : Fin 3)]; decide),
      dif_pos (show (1 : Fin 3) ∈ gather_S32x128x256_S256x1_S256x128x256_12_0_n_n_0_1_1128256.sKept from (GatherDims.mem_sKept _ _).2 ⟨by show (1 : Fin 3) ∉ [(0 : Fin 3)]; decide, List.not_mem_nil⟩), Nat.zero_add]
    rfl
  · unfold GatherDims.start GatherDims.offCoord
    rw [dif_neg (show (2 : Fin 3) ∉ gather_S32x128x256_S256x1_S256x128x256_12_0_n_n_0_1_1128256.startIndexMap from by show (2 : Fin 3) ∉ [(0 : Fin 3)]; decide),
      dif_pos (show (2 : Fin 3) ∈ gather_S32x128x256_S256x1_S256x128x256_12_0_n_n_0_1_1128256.sKept from (GatherDims.mem_sKept _ _).2 ⟨by show (2 : Fin 3) ∉ [(0 : Fin 3)]; decide, List.not_mem_nil⟩), Nat.zero_add]
    rfl

theorem gathered_probs (p : FVec Ideal S256x32 .f32) (idx : IVec S256x1 32) (n : Fin 256) :
    Host.gather gather_S256x32_S256x2_S256_n_01_n_n_01_1_11 p (pairs idx) (ix1 n) = p (ix2 n (clamped (idx (ix2 n (0 : Fin 1))))) := by
  unfold Host.gather
  refine congrArg p (funext fun a => Fin.ext ?_)
  generalize hD : gather_S256x32_S256x2_S256_n_01_n_n_01_1_11 = D
  show D.start (ix1 n) (pairs idx) a + D.batchCoord (ix1 n) a + D.offCoord (ix1 n) a = _
  subst hD
  rw [GatherDims.batchCoord_eq_zero _ _ _ List.not_mem_nil, Nat.add_zero]
  have hmem : a ∈ ([0, 1] : List (Fin 2)) := by fin_cases a <;> decide
  rw [GatherDims.offCoord_eq_zero _ _ _ (fun h => ((GatherDims.mem_sKept _ _).mp h).1 hmem), Nat.add_zero]
  unfold GatherDims.start
  rw [dif_pos (show a ∈ gather_S256x32_S256x2_S256_n_01_n_n_01_1_11.startIndexMap from hmem)]
  have ha : a = (0 : Fin 2) ∨ a = (1 : Fin 2) := by fin_cases a <;> decide
  rcases ha with rfl | rfl
  · refine (congrArg (fun i => min (pairs idx i).toInt.toNat 255) (show _ = ix2 n (0 : Fin 2) from ?_)).trans ?_
    · funext b; refine Fin.ext ?_
      match b with
      | ⟨0, _⟩ => rfl
      | ⟨1, _⟩ => rfl
    · show min (pairs idx (ix2 n (0 : Fin 2))).toInt.toNat 255 = n.val
      rw [pairs_left, token_toNat]
  · refine (congrArg (fun i => min (pairs idx i).toInt.toNat 31) (show _ = ix2 n (1 : Fin 2) from ?_)).trans ?_
    · funext b; refine Fin.ext ?_
      match b with
      | ⟨0, _⟩ => rfl
      | ⟨1, _⟩ => rfl
    · show min (pairs idx (ix2 n (1 : Fin 2))).toInt.toNat 31 = _
      rw [pairs_right]; rfl

/-! ## The layer read at an index -/

/-- A token's product with its own matrix, read at an index. -/
theorem dot_own_apply (x : FVec Ideal S256x128 .f32) (M : FVec Ideal S256x128x256 .f32) (n h : Fin 256) :
    Host.dotGeneral dot_S256x128_S256x128x256_S256x256_1_1_n_2_0_0 none x M (ix2 n h) = prod x (fun d h => M (ix3 n d h)) n h := by
  show FloatOps.dotGeneral _ none _ x M (ix2 n h) = _
  rw [Ideal.dotGeneral_apply, ← Equiv.sum_comp (contrEquiv1 dot_S256x128_S256x128x256_S256x256_1_1_n_2_0_0 128 rfl rfl).symm]
  refine Finset.sum_congr rfl fun d _ => ?_
  have c := contrEquiv1_symm_val dot_S256x128_S256x128x256_S256x256_1_1_n_2_0_0 128 rfl rfl d
  refine congrArg₂ (fun a b : EReal => a * b) (congrArg x (funext fun a => Fin.ext ?_)) (congrArg M (funext fun a => Fin.ext ?_))
  · match a with
    | ⟨0, _⟩ => rfl
    | ⟨1, _⟩ => exact c
  · match a with
    | ⟨0, _⟩ => rfl
    | ⟨1, _⟩ => exact c
    | ⟨2, _⟩ => rfl

theorem dot_shared_apply (x : FVec Ideal S256x128 .f32) (w : FVec Ideal S128x256 .f32) (n h : Fin 256) :
    Host.dotGeneral dot_S256x128_S128x256_S256x256_1_0_0_1_n_n none x w (ix2 n h) = prod x (fun d h => w (ix2 d h)) n h :=
  StackMember.dotGeneral_plain_apply (m := 256) (k := 128) (n := 256) none x w n h

/-- A word inside the experts' range is the expert it is clamped to; one outside is no expert. -/
theorem word_cases (w : BitVec 32) :
    (inside w 31#32 = 1#1 ∧ BitVec.ofNat 32 (clamped w).val = w) ∨ (inside w 31#32 = 0#1 ∧ ∀ e : Fin 32, BitVec.ofNat 32 e.val ≠ w) := by
  by_cases h : ∃ e : Fin 32, BitVec.ofNat 32 e.val = w
  · obtain ⟨e, rfl⟩ := h
    left; revert e; decide +kernel
  · right
    refine ⟨?_, fun e he => h ⟨e, he⟩⟩
    have hb : inside w 31#32 ≠ 1#1 := fun hi => h ⟨⟨w.toNat % 32, Nat.mod_lt _ (by decide)⟩, by
      unfold inside IntOp.andi IntOp.cmpi at hi
      have h0 : (0#32).sle w = true := by
        by_contra hc; rw [Bool.not_eq_true] at hc; simp [hc] at hi
      have h1 : w.sle 31#32 = true := by
        by_contra hc; rw [Bool.not_eq_true] at hc; simp [hc] at hi
      rw [BitVec.sle_iff_toInt_le] at h0 h1
      have hw := BitVec.toInt_eq_toNat_cond w
      have e0 : (0#32).toInt = 0 := rfl
      have e1 : (31#32).toInt = 31 := rfl
      rw [e0] at h0; rw [e1] at h1
      have hlt : w.toNat < 32 := by split at hw <;> omega
      show BitVec.ofNat 32 (w.toNat % 32) = w
      rw [Nat.mod_eq_of_lt hlt]; exact BitVec.eq_of_toNat_eq (by rw [BitVec.toNat_ofNat, Nat.mod_eq_of_lt w.isLt])⟩
    exact eq_zero_of_ne_one hb

theorem weights_apply (x : FVec Ideal S256x128 .f32) (rw : FVec Ideal S128x32 .f32) (idx : IVec S256x1 32) (n : Fin 256) :
    weights x rw idx (ix1 n) = Scalar.select (inside (idx (ix2 n (0 : Fin 1))) 31#32)
      (probs x rw (ix2 n (clamped (idx (ix2 n (0 : Fin 1)))))) (0 : EReal) := by
  unfold weights
  rw [select_apply, within_apply, gathered_probs, softmax_eq]
  exact congrArg (Scalar.select _ _) Ideal.ofBits_zero_f32

theorem value_apply (x : FVec Ideal S256x128 .f32) (rw : FVec Ideal S128x32 .f32) (idx : IVec S256x1 32) (W : FVec Ideal S32x128x256 .f32)
    (sw : FVec Ideal S128x256 .f32) (n h : Fin 256) :
    value x rw idx W sw (ix2 n h) = moe x rw idx (fun e d h => W (ix3 e d h)) (fun d h => sw (ix2 d h)) n h := by
  have hg : broadcastInDim S256x256 ![0, 1] bcast_S256x1_S256x256_0_1 (broadcastInDim S256x1 ![0] bcast_S256_S256x1_0 (weights x rw idx)) (ix2 n h)
      = weights x rw idx (ix1 n) :=
    (broadcastInDim_apply _ _ _ (ix2 n h) (ix2 n (0 : Fin 1)) fun a => by
      match a with
      | ⟨0, _⟩ => rfl
      | ⟨1, _⟩ => rfl).trans (asColumn_apply _ n 0)
  unfold value moe
  rw [addf_apply, mulf_apply, hg, dot_shared_apply, dot_own_apply, weights_apply, add_comm]
  refine congrArg (· + _) ?_
  simp only [matrices_apply]
  rcases word_cases (idx (ix2 n (0 : Fin 1))) with ⟨h1, h2⟩ | ⟨h1, h2⟩
  · rw [h1, select_one, Finset.sum_eq_single (clamped (idx (ix2 n (0 : Fin 1))))]
    · unfold gate; rw [if_pos h2]
    · intro e _ he
      unfold gate
      rw [if_neg fun hw => he (ofNat32_inj (hw.trans h2.symm)), zero_mul]
    · intro hn; exact absurd (Finset.mem_univ _) hn
  · rw [h1, select_zero, zero_mul]
    refine (Finset.sum_eq_zero fun e _ => ?_).symm
    unfold gate; rw [if_neg (h2 e), zero_mul]

end Cert.MoeProof.Ref

end
-- ==== Proof.Final.lean ====
/-
# The arrays at the end

What the run leaves in the program's arrays: the result at the gathered rows, every argument as it was. At the extended
reals, from arguments that are the devices' parts of the whole arrays, that result is the reference's.
-/
module

public import proofs.«01_k».proof.Proof.Reference
public import Idealize.ShloMosaic.Lib.Pipeline.ValueKit.Geometry

@[expose] public section

noncomputable section

namespace Cert.MoeProof

open Cert.KernelIdeal Cert.KernelIdeal.Gen
open Idealize.ShloMosaic Idealize.ShloMosaic.TcCoe Idealize.ShloMosaic.ValueIdx Idealize.SL.Sem

section AnyValues
variable {F : FTy → Type} [FloatOps F]
variable (m : (ℓ : Loc nD τ sig) → Buf (Elt F) ℓ) (ρ : Dev nD → PrngReg)

/-! ## The fetched windows are the arguments -/

theorem insOf_x (c : Dev nD) : (insOf m c).x = m ((c : Thread nD τ).loc main_arg0) := by
  funext i
  exact congrArg (m ((c : Thread nD τ).loc main_arg0)) (funext fun a => Fin.ext (Pipeline.Window.rect_emb_val_of_index_zero win0_0 (0 : Fin 1) a rfl i))
theorem insOf_rw (c : Dev nD) : (insOf m c).rw = m ((c : Thread nD τ).loc main_arg1) := by
  funext i
  exact congrArg (m ((c : Thread nD τ).loc main_arg1)) (funext fun a => Fin.ext (Pipeline.Window.rect_emb_val_of_index_zero win0_1 (0 : Fin 1) a rfl i))
theorem insOf_idx (c : Dev nD) : (insOf m c).idx = m ((c : Thread nD τ).loc main_arg2) := by
  funext i
  exact congrArg (m ((c : Thread nD τ).loc main_arg2)) (funext fun a => Fin.ext (Pipeline.Window.rect_emb_val_of_index_zero win0_2 (0 : Fin 1) a rfl i))
theorem insOf_ew (c : Dev nD) : (insOf m c).ew = m ((c : Thread nD τ).loc main_arg3) := by
  funext i
  exact congrArg (m ((c : Thread nD τ).loc main_arg3)) (funext fun a => Fin.ext (Pipeline.Window.rect_emb_val_of_index_zero win0_3 (0 : Fin 1) a rfl i))
theorem insOf_sw (c : Dev nD) : (insOf m c).sw = m ((c : Thread nD τ).loc main_arg4) := by
  funext i
  exact congrArg (m ((c : Thread nD τ).loc main_arg4)) (funext fun a => Fin.ext (Pipeline.Window.rect_emb_val_of_index_zero win0_4 (0 : Fin 1) a rfl i))

/-! ## The arrays after the run -/

theorem finalA_out (c : Dev nD) : finalA m ρ c 5 = result m := by
  unfold finalA
  refine (dats m ρ 0 c).arrAt_eq_of_after_last 5 t0_0 (by decide +kernel) (result m) fun j => ?_
  rfl

/-- The program's run, array by array. -/
theorem run_arrays : θ_run defs (onTc (τ := τ) (main (F := F))) ⟨m, fun _ => 0, ρ⟩ (fun r =>
    (∀ c : Dev nD, r.2.mem ((c.tc : Thread nD τ).loc main_v1) = result m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  (θ_run defs _ _).mono (fun _ h => ⟨fun c =>
    ⟨(h.1 c 5).trans (finalA_out m ρ c),
      (h.1 c 0).trans ((dats m ρ 0 c).arrAt_in 0 rfl _), (h.1 c 1).trans ((dats m ρ 0 c).arrAt_in 1 rfl _),
      (h.1 c 2).trans ((dats m ρ 0 c).arrAt_in 2 rfl _), (h.1 c 3).trans ((dats m ρ 0 c).arrAt_in 3 rfl _),
      (h.1 c 4).trans ((dats m ρ 0 c).arrAt_in 4 rfl _)⟩, h.2⟩) (run_main m ρ)

/-- The run, of the arguments and the semaphores alone. -/
theorem run_frame : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  (θ_run defs _ _).mono (fun _ h => ⟨fun c => (h.1 c).2, h.2⟩) (run_arrays m ρ)

end AnyValues

/-! ## The result against the reference -/

/-- A device whose arguments are its part of the whole arrays holds what the result's formula asks of it. -/
theorem holds_of_parts (m : (ℓ : Loc nD τ sig) → Buf (Elt Ideal) ℓ) (x : FVec Ideal S256x128 .f32) (rw : FVec Ideal S128x32 .f32)
    (idx : IVec S256x1 32) (W : FVec Ideal Cert.ReferenceIdeal.S32x128x256 .f32) (sw : FVec Ideal S128x256 .f32) (c : Dev nD)
    (h0 : m ((c.tc : Thread nD τ).loc main_arg0) = x) (h1 : m ((c.tc : Thread nD τ).loc main_arg1) = rw)
    (h2 : m ((c.tc : Thread nD τ).loc main_arg2) = idx)
    (h3 : m ((c.tc : Thread nD τ).loc main_arg3) = Layout.block ⟨3, ![2, 128, 256]⟩ ⟨3, ![32, 128, 256]⟩ 0 16 c W)
    (h4 : m ((c.tc : Thread nD τ).loc main_arg4) = sw) :
    Holds x rw idx (fun e d h => W (ix3 e d h)) sw c (insOf m c) where
  x := (insOf_x m c).trans h0
  rw := (insOf_rw m c).trans h1
  idx := (insOf_idx m c).trans h2
  ew j d h := by
    rw [insOf_ew]
    refine (congrFun h3 (ix3 j d h)).trans ?_
    refine congrArg W (funext fun a => Fin.ext ?_)
    match a with
    | ⟨0, _⟩ => show c.val * 2 + j.val = 2 * c.val + j.val; omega
    | ⟨1, _⟩ => rfl
    | ⟨2, _⟩ => rfl
  sw := (insOf_sw m c).trans h4

theorem result_eq (m : (ℓ : Loc nD τ sig) → Buf (Elt Ideal) ℓ) (x : FVec Ideal S256x128 .f32) (rw : FVec Ideal S128x32 .f32)
    (idx : IVec S256x1 32) (W : FVec Ideal Cert.ReferenceIdeal.S32x128x256 .f32) (sw : FVec Ideal S128x256 .f32)
    (h : ∀ c : Dev nD, Holds x rw idx (fun e d h => W (ix3 e d h)) sw c (insOf m c)) :
    result m = Ref.value x rw idx W sw := by
  funext i
  rw [eq_ix2 i]
  exact (gathered_apply x rw idx _ sw (insOf m) h _ _).trans (Ref.value_apply x rw idx W sw _ _).symm

end Cert.MoeProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Final
public import Idealize.ShloMosaic.Adequacy
public import Idealize.ShloMosaic.Init

@[expose] public section

noncomputable section

namespace Cert.Proof

open Idealize.ShloMosaic Idealize.SL.Sem Cert.Kernel

open Cert.MoeProof

/-- The two programs have one text: their body tables are one, -/
theorem bodies_same {F : FTy → Type} [FloatOps F] [h : Cert.Kernel.Facts] [h' : Cert.KernelIdeal.Facts] :
    @Cert.Kernel.defs₀ F _ h = @Cert.KernelIdeal.defs₀ F _ h' := by
  unfold Cert.Kernel.defs₀ Cert.KernelIdeal.defs₀
  refine congrArg Defs.onTc (funext fun l => funext fun a => ?_)
  match l, a with
  | 0, (t, s) => rfl

theorem defs_same {F : FTy → Type} [FloatOps F] [h : Cert.Kernel.Facts] [h' : Cert.KernelIdeal.Facts] :
    @Cert.Kernel.defs F _ h = @Cert.KernelIdeal.defs F _ h' := by
  unfold Cert.Kernel.defs Cert.KernelIdeal.defs
  exact congrArg (Pipeline.defs Cert.KernelIdeal.pcfgs) bodies_same

/-- and the run over any float values is, at the device's own floats, the kernel's. -/
theorem frame_kernel : Cert.quiescent_Kernel := fun m ρ _ => by
  have h := run_frame (F := Bits) m ρ
  rw [← defs_same] at h
  exact h

theorem frame_kernelIdeal : Cert.quiescent_KernelIdeal := fun m ρ _ => run_frame (F := Ideal) m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device ends holding what the reference computes from the whole arrays. -/
theorem same_value : Cert.algebraic_KernelIdeal_ReferenceIdeal := fun m ρ m' ρ' _ hm =>
  let at0 (b : Ref Cert.ReferenceIdeal.sig .tc) := m' (((0 : Dev Cert.ReferenceIdeal.nD).tc : Thread Cert.ReferenceIdeal.nD Cert.ReferenceIdeal.τ).loc b)
  ⟨Ref.value (at0 Cert.ReferenceIdeal.main_arg0) (at0 Cert.ReferenceIdeal.main_arg1) (at0 Cert.ReferenceIdeal.main_arg2)
      (at0 Cert.ReferenceIdeal.main_arg3) (at0 Cert.ReferenceIdeal.main_arg4),
    (θ_run Cert.KernelIdeal.defs _ _).mono (fun _ h c => ⟨(h.1 c).1.trans (result_eq m _ _ _ _ _ fun d =>
        holds_of_parts m _ _ _ _ _ d (hm d).1 (hm d).2.1 (hm d).2.2.1 (hm d).2.2.2.1 (hm d).2.2.2.2), (h.1 c).2⟩)
      (run_arrays (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_kernelIdeal, frame_reference, trivial, same_value⟩

end Cert.Proof

end
